-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v63_0) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v63_1) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1536x4x64 : Shape := ⟨4, ![16, 1536, 4, 64]⟩
abbrev S16x4 : Shape := ⟨2, ![16, 4]⟩
abbrev S3071x4x64 : Shape := ⟨3, ![3071, 4, 64]⟩
abbrev S4 : Shape := ⟨1, ![4]⟩
abbrev S4x64 : Shape := ⟨2, ![4, 64]⟩
abbrev S_ : Shape := ⟨0, ![]⟩

class Facts : Prop where
  bcast_S_S16x1536x4x64 : S_.BroadcastsInDim S16x1536x4x64 (![] : Fin 0 → Fin S16x1536x4x64.rank)
  reducesTo_S16x1536x4x64_S_d0_1_2_3 : S16x1536x4x64.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x1536x4x64 .bf16) (main_arg1 : FVec F S16x1536x4x64 .fp8e4m3) (main_arg2 : FVec F S16x4 .f32) (main_arg3 : FVec F S16x1536x4x64 .fp8e4m3) (main_arg4 : FVec F S16x4 .f32) (main_arg5 : FVec F S3071x4x64 .fp8e4m3) (main_arg6 : FVec F S4 .f32) (main_arg7 : FVec F S4x64 .f32) (main_arg8 : FVec F S4x64 .f32) : IVec S_ 1 :=
  let main_v0 : FVec F S16x1536x4x64 .bf16 := Host.absf main_arg0
  let main_cst : FVec F S_ .bf16 := constant S_ .bf16 0x7F7F#16
  let main_v1 : FVec F S16x1536x4x64 .bf16 := broadcastInDim S16x1536x4x64 ![] bcast_S_S16x1536x4x64 main_cst
  let main_v2 : IVec S16x1536x4x64 1 := cmpf .ole main_v0 main_v1
  let main_c : IVec S_ 1 := constantI S_ 1 1#1
  let main_v3 : IVec S_ 1 := (fun x v => Host.reduce IntOp.andi x v reducesTo_S16x1536x4x64_S_d0_1_2_3 h_S_) main_v2 main_c
  let main_v4 : FVec F S4x64 .f32 := Host.absf main_arg7
  let main_cst_0 : FVec F S_ .f32 := constant S_ .f32 0x7F7FFFFF#32
  let main_v5 : FVec F S4x64 .f32 := broadcastInDim S4x64 ![] bcast_S_S4x64 main_cst_0
  let main_v6 : IVec S4x64 1 := cmpf .ole main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64 .f32 := Host.absf main_arg8
  let main_cst_2 : FVec F S_ .f32 := constant S_ .f32 0x7F7FFFFF#32
  let main_v10 : FVec F S4x64 .f32 := broadcastInDim S4x64 ![] bcast_S_S4x64 main_cst_2
  let main_v11 : IVec S4x64 1 := cmpf .ole main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S16x1536x4x64 : Shape := ⟨4, ![16, 1536, 4, 64]⟩
abbrev S16x4 : Shape := ⟨2, ![16, 4]⟩
abbrev S3071x4x64 : Shape := ⟨3, ![3071, 4, 64]⟩
abbrev S4 : Shape := ⟨1, ![4]⟩
abbrev S4x64 : Shape := ⟨2, ![4, 64]⟩
abbrev S16x4x1536x64 : Shape := ⟨4, ![16, 4, 1536, 64]⟩
abbrev S4x3071x64 : Shape := ⟨3, ![4, 3071, 64]⟩
abbrev S_ : Shape := ⟨0, ![]⟩
abbrev S4x3072x64 : Shape := ⟨3, ![4, 3072, 64]⟩
abbrev S4x1x64 : Shape := ⟨3, ![4, 1, 64]⟩
abbrev S1x4 : Shape := ⟨2, ![1, 4]⟩
abbrev S16x4x1536x1 : Shape := ⟨4, ![16, 4, 1536, 1]⟩
abbrev S1x1x256x64 : Shape := ⟨4, ![1, 1, 256, 64]⟩
abbrev S1x1x1536x64 : Shape := ⟨4, ![1, 1, 1536, 64]⟩
abbrev S1x3072x64 : Shape := ⟨3, ![1, 3072, 64]⟩
abbrev S1x1x64 : Shape := ⟨3, ![1, 1, 64]⟩
abbrev S1x1x256x1 : Shape := ⟨4, ![1, 1, 256, 1]⟩
abbrev S256x1536 : Shape := ⟨2, ![256, 1536]⟩
abbrev S256x64 : Shape := ⟨2, ![256, 64]⟩
abbrev S1x64 : Shape := ⟨2, ![1, 64]⟩
abbrev S256 : Shape := ⟨1, ![256]⟩
abbrev S256x1 : Shape := ⟨2, ![256, 1]⟩
abbrev S256x256 : Shape := ⟨2, ![256, 256]⟩
abbrev S1x1 : Shape := ⟨2, ![1, 1]⟩
abbrev S256x128 : Shape := ⟨2, ![256, 128]⟩
abbrev S1536x64 : Shape := ⟨2, ![1536, 64]⟩
abbrev S128x128 : Shape := ⟨2, ![128, 128]⟩
abbrev S128x64 : Shape := ⟨2, ![128, 64]⟩
abbrev S1x1664x64 : Shape := ⟨3, ![1, 1664, 64]⟩
abbrev S1664x64 : Shape := ⟨2, ![1664, 64]⟩
abbrev S128x1664 : Shape := ⟨2, ![128, 1664]⟩
abbrev S128 : Shape := ⟨1, ![128]⟩
abbrev S128x1 : Shape := ⟨2, ![128, 1]⟩
abbrev S128x1536 : Shape := ⟨2, ![128, 1536]⟩
abbrev S1x1x128x64 : Shape := ⟨4, ![1, 1, 128, 64]⟩
abbrev S16x1536x256 : Shape := ⟨3, ![16, 1536, 256]⟩
abbrev S16x1536x4x1 : Shape := ⟨4, ![16, 1536, 4, 1]⟩
abbrev S16x1536x4 : Shape := ⟨3, ![16, 1536, 4]⟩

abbrev nBuf : Space → Nat
  | .hbm => 32
  | .vmem => 23
  | .smem => 3
  | _ => 0

abbrev bufTy : (tb : Table) → Fin (tcTables nBuf tb) → BufTy
  | .hbm, ⟨0, _⟩ => ⟨S16x1536x4x64, .bf16⟩
  | .hbm, ⟨1, _⟩ => ⟨S16x1536x4x64, .fp8e4m3⟩
  | .hbm, ⟨2, _⟩ => ⟨S16x4, .f32⟩
  | .hbm, ⟨3, _⟩ => ⟨S16x1536x4x64, .fp8e4m3⟩
  | .hbm, ⟨4, _⟩ => ⟨S16x4, .f32⟩
  | .hbm, ⟨5, _⟩ => ⟨S3071x4x64, .fp8e4m3⟩
  | .hbm, ⟨6, _⟩ => ⟨S4, .f32⟩
  | .hbm, ⟨7, _⟩ => ⟨S4x64, .f32⟩
  | .hbm, ⟨8, _⟩ => ⟨S4x64, .f32⟩
  | .hbm, ⟨9, _⟩ => ⟨S16x4x1536x64, .bf16⟩
  | .hbm, ⟨10, _⟩ => ⟨S16x4x1536x64, .fp8e4m3⟩
  | .hbm, ⟨11, _⟩ => ⟨S16x4x1536x64, .fp8e4m3⟩
  | .hbm, ⟨12, _⟩ => ⟨S4x3071x64, .fp8e4m3⟩
  | .hbm, ⟨13, _⟩ => ⟨S_, .i8⟩
  | .hbm, ⟨14, _⟩ => ⟨S_, .fp8e4m3⟩
  | .hbm, ⟨15, _⟩ => ⟨S4x3072x64, .fp8e4m3⟩
  | .hbm, ⟨16, _⟩ => ⟨S4x1x64, .f32⟩
  | .hbm, ⟨17, _⟩ => ⟨S4x1x64, .f32⟩
  | .hbm, ⟨18, _⟩ => ⟨S1x4, .f32⟩
  | .hbm, ⟨19, _⟩ => ⟨S16x4x1536x64, .bf16⟩
  | .hbm, ⟨20, _⟩ => ⟨S16x4x1536x64, .fp8e4m3⟩
  | .hbm, ⟨21, _⟩ => ⟨S16x4x1536x1, .f32⟩
  | .hbm, ⟨22, _⟩ => ⟨S16x4x1536x64, .fp8e4m3⟩
  | .hbm, ⟨23, _⟩ => ⟨S16x4x1536x1, .f32⟩
  | .hbm, ⟨24, _⟩ => ⟨S16x1536x4x64, .bf16⟩
  | .hbm, ⟨25, _⟩ => ⟨S16x1536x256, .bf16⟩
  | .hbm, ⟨26, _⟩ => ⟨S16x1536x4x64, .fp8e4m3⟩
  | .hbm, ⟨27, _⟩ => ⟨S16x1536x4x1, .f32⟩
  | .hbm, ⟨28, _⟩ => ⟨S16x1536x4, .f32⟩
  | .hbm, ⟨29, _⟩ => ⟨S16x1536x4x64, .fp8e4m3⟩
  | .hbm, ⟨30, _⟩ => ⟨S16x1536x4x1, .f32⟩
  | .hbm, ⟨31, _⟩ => ⟨S16x1536x4, .f32⟩
  | .local _ .vmem, ⟨0, _⟩ => ⟨S1x1x256x64, .bf16⟩
  | .local _ .vmem, ⟨1, _⟩ => ⟨S1x1x256x64, .bf16⟩
  | .local _ .vmem, ⟨2, _⟩ => ⟨S1x1x1536x64, .fp8e4m3⟩
  | .local _ .vmem, ⟨3, _⟩ => ⟨S1x1x1536x64, .fp8e4m3⟩
  | .local _ .vmem, ⟨4, _⟩ => ⟨S1x1x1536x64, .fp8e4m3⟩
  | .local _ .vmem, ⟨5, _⟩ => ⟨S1x1x1536x64, .fp8e4m3⟩
  | .local _ .vmem, ⟨6, _⟩ => ⟨S1x3072x64, .fp8e4m3⟩
  | .local _ .vmem, ⟨7, _⟩ => ⟨S1x3072x64, .fp8e4m3⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x256x64, .bf16⟩
  | .local _ .vmem, ⟨13, _⟩ => ⟨S1x1x256x64, .bf16⟩
  | .local _ .vmem, ⟨14, _⟩ => ⟨S1x1x256x64, .fp8e4m3⟩
  | .local _ .vmem, ⟨15, _⟩ => ⟨S1x1x256x64, .fp8e4m3⟩
  | .local _ .vmem, ⟨16, _⟩ => ⟨S1x1x256x1, .f32⟩
  | .local _ .vmem, ⟨17, _⟩ => ⟨S1x1x256x1, .f32⟩
  | .local _ .vmem, ⟨18, _⟩ => ⟨S1x1x256x64, .fp8e4m3⟩
  | .local _ .vmem, ⟨19, _⟩ => ⟨S1x1x256x64, .fp8e4m3⟩
  | .local _ .vmem, ⟨20, _⟩ => ⟨S1x1x256x1, .f32⟩
  | .local _ .vmem, ⟨21, _⟩ => ⟨S1x1x256x1, .f32⟩
  | .local _ .vmem, ⟨22, _⟩ => ⟨S256x1536, .f32⟩
  | .local _ .smem, ⟨0, _⟩ => ⟨S16x4, .f32⟩
  | .local _ .smem, ⟨1, _⟩ => ⟨S16x4, .f32⟩
  | .local _ .smem, ⟨2, _⟩ => ⟨S1x4, .f32⟩
  | _, _ => ⟨S16x1536x4x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨3, ![16, 4, 6], ![false, false, false]⟩

def k0_off1 (i : grid0.Coords) : Fin 2 → Nat :=
  let arg0 : BitVec 32 := BitVec.ofNat 32 (i 0).val
  let v102 : Index := Scalar.indexCast arg0
  let arg1 : BitVec 32 := BitVec.ofNat 32 (i 1).val
  let v103 : Index := Scalar.indexCast arg1
  ![v102.toNat, v103.toNat]
def k0_off2 (i : grid0.Coords) : Fin 2 → Nat :=
  let c0_48 : Index := 0#32
  let arg1 : BitVec 32 := BitVec.ofNat 32 (i 1).val
  let v111 : Index := Scalar.indexCast arg1
  ![0, v111.toNat]
def k0_mult1 (i : grid0.Coords) : BitVec 32 :=
  let c1536_i32 : BitVec 32 := 1536#32
  let arg2 : BitVec 32 := BitVec.ofNat 32 (i 2).val
  let c256_i32 : BitVec 32 := 256#32
  let v0 : BitVec 32 := Scalar.muli arg2 c256_i32
  let v125 : BitVec 32 := Scalar.subi c1536_i32 v0
  let c128_i32 : BitVec 32 := 128#32
  let v126 : BitVec 32 := Scalar.subi v125 c128_i32
  v126
def k0_off3 (i : grid0.Coords) (c128_i32 : BitVec 32) : Fin 3 → Nat :=
  let c0_55 : Index := 0#32
  let c1536_i32 : BitVec 32 := 1536#32
  let arg2 : BitVec 32 := BitVec.ofNat 32 (i 2).val
  let c256_i32 : BitVec 32 := 256#32
  let v0 : BitVec 32 := Scalar.muli arg2 c256_i32
  let v125 : BitVec 32 := Scalar.subi c1536_i32 v0
  let v126 : BitVec 32 := Scalar.subi v125 c128_i32
  let v127 : BitVec 32 := v126
  let v129 : Index := Scalar.indexCast v127
  let c0_56 : Index := 0#32
  ![0, v129.toNat, 0]
def k0_mult2 (i : grid0.Coords) : BitVec 32 :=
  let c1536_i32_119 : BitVec 32 := 1536#32
  let arg2 : BitVec 32 := BitVec.ofNat 32 (i 2).val
  let c256_i32 : BitVec 32 := 256#32
  let v0 : BitVec 32 := Scalar.muli arg2 c256_i32
  let v371 : BitVec 32 := Scalar.subi c1536_i32_119 v0
  let c256_i32_120 : BitVec 32 := 256#32
  let v372 : BitVec 32 := Scalar.subi v371 c256_i32_120
  v372
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1536x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1536x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3072x64 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .smem S16x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .smem S16x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .smem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x64 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "log2e_scale" => some (((8 * (Real.log 2))⁻¹ : ℝ) : EReal)
  | _ => none
-- ==== ReferenceIdeal.lean ====
abbrev S16x1536x4x64 : Shape := ⟨4, ![16, 1536, 4, 64]⟩
abbrev S16x4 : Shape := ⟨2, ![16, 4]⟩
abbrev S3071x4x64 : Shape := ⟨3, ![3071, 4, 64]⟩
abbrev S4 : Shape := ⟨1, ![4]⟩
abbrev S4x64 : Shape := ⟨2, ![4, 64]⟩
abbrev S1x1x4x64 : Shape := ⟨4, ![1, 1, 4, 64]⟩
abbrev S_ : Shape := ⟨0, ![]⟩
abbrev S16x1536x4 : Shape := ⟨3, ![16, 1536, 4]⟩
abbrev S16x1536x4x1 : Shape := ⟨4, ![16, 1536, 4, 1]⟩
abbrev S16x4x1536x1536 : Shape := ⟨4, ![16, 4, 1536, 1536]⟩
abbrev S16x4x1536 : Shape := ⟨3, ![16, 4, 1536]⟩
abbrev S16x4x1536x1 : Shape := ⟨4, ![16, 4, 1536, 1]⟩
abbrev S16x4x1x1 : Shape := ⟨4, ![16, 4, 1, 1]⟩
abbrev S4x3071x16x1536 : Shape := ⟨4, ![4, 3071, 16, 1536]⟩
abbrev S16x4x1536x3071 : Shape := ⟨4, ![16, 4, 1536, 3071]⟩
abbrev S1536 : Shape := ⟨1, ![1536]⟩
abbrev S1536x1 : Shape := ⟨2, ![1536, 1]⟩
abbrev S1x1536 : Shape := ⟨2, ![1, 1536]⟩
abbrev S1536x1536 : Shape := ⟨2, ![1536, 1536]⟩
abbrev S1x1x1536x1536 : Shape := ⟨4, ![1, 1, 1536, 1536]⟩
abbrev S1536x1536x1 : Shape := ⟨3, ![1536, 1536, 1]⟩
abbrev S1x4x1x1 : Shape := ⟨4, ![1, 4, 1, 1]⟩
abbrev S16x4x64x1536 : Shape := ⟨4, ![16, 4, 64, 1536]⟩
abbrev S16x1x4x1 : Shape := ⟨4, ![16, 1, 4, 1]⟩
abbrev S16x1536x256 : Shape := ⟨3, ![16, 1536, 256]⟩

abbrev nBuf : Space → Nat
  | .hbm => 163
  | .vmem => 12
  | .smem => 0
  | _ => 0

abbrev hbmTy0_0 (i : Nat) : BufTy := match i % 128 with
  | 0 => ⟨S16x1536x4x64, .bf16⟩
  | 1 => ⟨S16x1536x4x64, .fp8e4m3⟩
  | 2 => ⟨S16x4, .f32⟩
  | 3 => ⟨S16x1536x4x64, .fp8e4m3⟩
  | 4 => ⟨S16x4, .f32⟩
  | 5 => ⟨S3071x4x64, .fp8e4m3⟩
  | 6 => ⟨S4, .f32⟩
  | 7 => ⟨S4x64, .f32⟩
  | 8 => ⟨S4x64, .f32⟩
  | 9 => ⟨S16x1536x4x64, .f32⟩
  | 10 => ⟨S1x1x4x64, .f32⟩
  | 11 => ⟨S16x1536x4x64, .f32⟩
  | 12 => ⟨S16x1536x4x64, .f32⟩
  | 13 => ⟨S16x1536x4x64, .f32⟩
  | 14 => ⟨S_, .f32⟩
  | 15 => ⟨S16x1536x4, .f32⟩
  | 16 => ⟨S_, .f32⟩
  | 17 => ⟨S16x1536x4, .f32⟩
  | 18 => ⟨S16x1536x4, .i1⟩
  | 19 => ⟨S_, .f32⟩
  | 20 => ⟨S16x1536x4, .f32⟩
  | 21 => ⟨S_, .f32⟩
  | 22 => ⟨S16x1536x4, .f32⟩
  | 23 => ⟨S16x1536x4, .f32⟩
  | 24 => ⟨S16x1536x4, .f32⟩
  | 25 => ⟨S_, .f32⟩
  | 26 => ⟨S_, .f32⟩
  | 27 => ⟨S16x1536x4, .f32⟩
  | 28 => ⟨S16x1536x4, .f32⟩
  | 29 => ⟨S16x1536x4, .f32⟩
  | 30 => ⟨S_, .f32⟩
  | 31 => ⟨S16x1536x4, .f32⟩
  | 32 => ⟨S16x1536x4, .f32⟩
  | 33 => ⟨S_, .f32⟩
  | 34 => ⟨S16x1536x4, .f32⟩
  | 35 => ⟨S16x1536x4, .f32⟩
  | 36 => ⟨S16x1536x4, .f32⟩
  | 37 => ⟨S_, .f32⟩
  | 38 => ⟨S16x1536x4, .f32⟩
  | 39 => ⟨S16x1536x4, .f32⟩
  | 40 => ⟨S16x1536x4, .f32⟩
  | 41 => ⟨S16x1536x4x1, .f32⟩
  | 42 => ⟨S16x1536x4x64, .f32⟩
  | 43 => ⟨S16x1536x4x64, .f32⟩
  | 44 => ⟨S_, .f32⟩
  | 45 => ⟨S16x1536x4x64, .f32⟩
  | 46 => ⟨S16x1536x4x64, .f32⟩
  | 47 => ⟨S_, .f32⟩
  | 48 => ⟨S16x1536x4x64, .f32⟩
  | 49 => ⟨S16x1536x4x64, .f32⟩
  | 50 => ⟨S16x1536x4, .f32⟩
  | 51 => ⟨S1x1x4x64, .f32⟩
  | 52 => ⟨S16x1536x4x64, .f32⟩
  | 53 => ⟨S16x1536x4x64, .f32⟩
  | 54 => ⟨S16x1536x4x64, .f32⟩
  | 55 => ⟨S_, .f32⟩
  | 56 => ⟨S16x1536x4, .f32⟩
  | 57 => ⟨S_, .f32⟩
  | 58 => ⟨S16x1536x4, .f32⟩
  | 59 => ⟨S16x1536x4, .i1⟩
  | 60 => ⟨S_, .f32⟩
  | 61 => ⟨S16x1536x4, .f32⟩
  | 62 => ⟨S_, .f32⟩
  | 63 => ⟨S16x1536x4, .f32⟩
  | 64 => ⟨S16x1536x4, .f32⟩
  | 65 => ⟨S16x1536x4, .f32⟩
  | 66 => ⟨S_, .f32⟩
  | 67 => ⟨S_, .f32⟩
  | 68 => ⟨S16x1536x4, .f32⟩
  | 69 => ⟨S16x1536x4, .f32⟩
  | 70 => ⟨S16x1536x4, .f32⟩
  | 71 => ⟨S_, .f32⟩
  | 72 => ⟨S16x1536x4, .f32⟩
  | 73 => ⟨S16x1536x4, .f32⟩
  | 74 => ⟨S_, .f32⟩
  | 75 => ⟨S16x1536x4, .f32⟩
  | 76 => ⟨S16x1536x4, .f32⟩
  | 77 => ⟨S16x1536x4, .f32⟩
  | 78 => ⟨S_, .f32⟩
  | 79 => ⟨S16x1536x4, .f32⟩
  | 80 => ⟨S16x1536x4, .f32⟩
  | 81 => ⟨S16x1536x4, .f32⟩
  | 82 => ⟨S16x1536x4x1, .f32⟩
  | 83 => ⟨S16x1536x4x64, .f32⟩
  | 84 => ⟨S16x1536x4x64, .f32⟩
  | 85 => ⟨S_, .f32⟩
  | 86 => ⟨S16x1536x4x64, .f32⟩
  | 87 => ⟨S16x1536x4x64, .f32⟩
  | 88 => ⟨S_, .f32⟩
  | 89 => ⟨S16x1536x4x64, .f32⟩
  | 90 => ⟨S16x1536x4x64, .f32⟩
  | 91 => ⟨S16x1536x4, .f32⟩
  | 92 => ⟨S16x1536x4x64, .fp8e4m3⟩
  | 93 => ⟨S16x1536x4x64, .fp8e4m3⟩
  | 94 => ⟨S16x1536x4x64, .f32⟩
  | 95 => ⟨S16x1536x4x64, .f32⟩
  | 96 => ⟨S16x1536x4x64, .f32⟩
  | 97 => ⟨S16x1536x4x64, .bf16⟩
  | 98 => ⟨S3071x4x64, .f32⟩
  | 99 => ⟨S16x4x1536x1536, .f32⟩
  | 100 => ⟨S16x4x1536, .f32⟩
  | 101 => ⟨S16x4x1536x1, .f32⟩
  | 102 => ⟨S16x4x1536x1536, .f32⟩
  | 103 => ⟨S16x4x1536x1536, .f32⟩
  | 104 => ⟨S16x4x1x1, .f32⟩
  | 105 => ⟨S16x4x1536x1536, .f32⟩
  | 106 => ⟨S16x4x1536x1536, .f32⟩
  | 107 => ⟨S4x3071x16x1536, .f32⟩
  | 108 => ⟨S16x4x1536x3071, .f32⟩
  | 109 => ⟨S1536, .i32⟩
  | 110 => ⟨S1536x1, .i32⟩
  | 111 => ⟨S_, .i32⟩
  | 112 => ⟨S1536x1, .i32⟩
  | 113 => ⟨S1536x1, .i32⟩
  | 114 => ⟨S1x1536, .i32⟩
  | 115 => ⟨S1536x1536, .i32⟩
  | 116 => ⟨S1536x1536, .i32⟩
  | 117 => ⟨S1536x1536, .i32⟩
  | 118 => ⟨S1x1x1536x1536, .i32⟩
  | 119 => ⟨S_, .i32⟩
  | 120 => ⟨S1x1x1536x1536, .i32⟩
  | 121 => ⟨S1x1x1536x1536, .i1⟩
  | 122 => ⟨S_, .i32⟩
  | 123 => ⟨S1x1x1536x1536, .i32⟩
  | 124 => ⟨S1x1x1536x1536, .i32⟩
  | 125 => ⟨S1x1x1536x1536, .i32⟩
  | 126 => ⟨S1536x1536x1, .i32⟩
  | 127 => ⟨S16x4x1536x1536, .f32⟩
  | _ => ⟨S16x1536x4x64, .bf16⟩

abbrev hbmTy0_1 (i : Nat) : BufTy := match i % 128 with
  | 0 => ⟨S16x4x1536, .f32⟩
  | 1 => ⟨S16x4x1536x1, .f32⟩
  | 2 => ⟨S16x4x1536x1536, .f32⟩
  | 3 => ⟨S16x4x1536x1536, .f32⟩
  | 4 => ⟨S1x4x1x1, .f32⟩
  | 5 => ⟨S16x4x1536x1536, .f32⟩
  | 6 => ⟨S16x4x1536x1536, .f32⟩
  | 7 => ⟨S16x4x1536x1536, .f32⟩
  | 8 => ⟨S_, .f32⟩
  | 9 => ⟨S16x4x1536x1536, .f32⟩
  | 10 => ⟨S16x4x1536x1536, .f32⟩
  | 11 => ⟨S_, .f32⟩
  | 12 => ⟨S16x4x1536, .f32⟩
  | 13 => ⟨S_, .f32⟩
  | 14 => ⟨S16x4x1536, .f32⟩
  | 15 => ⟨S16x4x1536, .f32⟩
  | 16 => ⟨S16x4x1536x1, .f32⟩
  | 17 => ⟨S16x4x1536x1536, .f32⟩
  | 18 => ⟨S16x4x1536x1536, .f32⟩
  | 19 => ⟨S16x4x1536x1536, .f32⟩
  | 20 => ⟨S_, .f32⟩
  | 21 => ⟨S16x4x1536, .f32⟩
  | 22 => ⟨S16x4x1536x1, .f32⟩
  | 23 => ⟨S16x4x1536x1, .f32⟩
  | 24 => ⟨S16x4x1536x1536, .f32⟩
  | 25 => ⟨S16x4x1536x1536, .f32⟩
  | 26 => ⟨S16x4x1536x1536, .f32⟩
  | 27 => ⟨S16x4x1536x1536, .bf16⟩
  | 28 => ⟨S16x4x64x1536, .f32⟩
  | 29 => ⟨S16x1536x4x64, .f32⟩
  | 30 => ⟨S16x1x4x1, .f32⟩
  | 31 => ⟨S16x1536x4x64, .f32⟩
  | 32 => ⟨S16x1536x4x64, .f32⟩
  | 33 => ⟨S16x1536x256, .f32⟩
  | 34 => ⟨S16x1536x256, .bf16⟩
  | _ => ⟨S16x1536x4x64, .bf16⟩

abbrev hbmTy (i : Nat) : BufTy := match i / 128 with
  | 0 => hbmTy0_0 i
  | 1 => hbmTy0_1 i
  | _ => ⟨S16x1536x4x64, .bf16⟩

abbrev bufTy : (tb : Table) → Fin (tcTables nBuf tb) → BufTy
  | .hbm, ⟨i, _⟩ => hbmTy i
  | .local _ .vmem, ⟨0, _⟩ => ⟨S16x1536x4x64, .f32⟩
  | .local _ .vmem, ⟨1, _⟩ => ⟨S16x1536x4x64, .f32⟩
  | .local _ .vmem, ⟨2, _⟩ => ⟨S16x1536x4x64, .fp8e4m3⟩
  | .local _ .vmem, ⟨3, _⟩ => ⟨S16x1536x4x64, .fp8e4m3⟩
  | .local _ .vmem, ⟨4, _⟩ => ⟨S3071x4x64, .fp8e4m3⟩
  | .local _ .vmem, ⟨5, _⟩ => ⟨S16x1536x4x64, .fp8e4m3⟩
  | .local _ .vmem, ⟨6, _⟩ => ⟨S16x1536x4x64, .fp8e4m3⟩
  | .local _ .vmem, ⟨7, _⟩ => ⟨S16x1536x4x64, .f32⟩
  | .local _ .vmem, ⟨8, _⟩ => ⟨S16x1536x4x64, .f32⟩
  | .local _ .vmem, ⟨9, _⟩ => ⟨S16x1536x4x64, .f32⟩
  | .local _ .vmem, ⟨10, _⟩ => ⟨S16x1536x4x64, .bf16⟩
  | .local _ .vmem, ⟨11, _⟩ => ⟨S3071x4x64, .f32⟩
  | _, _ => ⟨S16x1536x4x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩
abbrev main_v59 : Ref sig .tc := ⟨.hbm, 87, rfl⟩
abbrev main_cst_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63_0 : Ref sig .tc := ⟨.hbm, 92, rfl⟩
abbrev main_v63_1 : Ref sig .tc := ⟨.hbm, 93, rfl⟩
abbrev main_v63_2 : Ref sig .tc := ⟨.hbm, 94, rfl⟩
abbrev main_v63_3 : Ref sig .tc := ⟨.hbm, 95, rfl⟩
abbrev main_v63_4 : Ref sig .tc := ⟨.hbm, 96, rfl⟩
abbrev main_v63_5 : Ref sig .tc := ⟨.hbm, 97, rfl⟩
abbrev main_v63_6 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call0_c : Ref sig .tc := ⟨.hbm, 119, rfl⟩
abbrev main_call0_v0 : Ref sig .tc := ⟨.hbm, 120, rfl⟩
abbrev main_call0_v1 : Ref sig .tc := ⟨.hbm, 121, rfl⟩
abbrev main_call0_c_0 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_call1_cst : Ref sig .tc := ⟨.hbm, 139, rfl⟩
abbrev main_call1_v0 : Ref sig .tc := ⟨.hbm, 140, rfl⟩
abbrev main_call1_cst_0 : Ref sig .tc := ⟨.hbm, 141, rfl⟩
abbrev main_call1_v1 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_cst_1 : Ref sig .tc := ⟨.hbm, 148, rfl⟩
abbrev main_call1_v7 : Ref sig .tc := ⟨.hbm, 149, rfl⟩
abbrev main_call1_v8 : Ref sig .tc := ⟨.hbm, 150, rfl⟩
abbrev main_call1_v9 : Ref sig .tc := ⟨.hbm, 151, rfl⟩
abbrev main_call1_v10 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16x1536x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1536x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536x4x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3071x4x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1536x4x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1536x4x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1536x4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1536x4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1536x4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1536x4x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3071x4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Chunks.lean ====
/- How one grid point of the kernel computes its attention scores: sub-block by sub-block of 128 query rows and
   chunk by chunk of 128 keys. Each chunk payload is read at an index as one entry of a score table. -/
module

public import proofs.«01_k».proof.Proof.Gen.KernelIdeal.Skeleton
public import Idealize.ShloMosaic.Lib.Pointwise
public import Idealize.ShloMosaic.Lib.Pipeline.Value

@[expose] public section

noncomputable section

namespace Cert.Proof.Kern

open Idealize.ShloMosaic Cert.KernelIdeal Cert.KernelIdeal.Gen
open scoped BigOperators

/-- The scores of the 256 query rows of a grid point against the 1536 keys, from the content products `ac`, the
    content and position factors `cu`, `cv` (one per row, repeated along 128 lanes) and the two sub-blocks'
    products `b0`, `b1` with the relative positions: row `r`, key `j` reads the position product at
    `j + 127 - (r mod 128)`. -/
def scores (ac : S256x1536.Idx → EReal) (cu cv : S256x128.Idx → EReal) (b0 b1 : S128x1664.Idx → EReal)
    (r : Fin 256) (j : Fin 1536) : EReal :=
  ac (ix2 r j) * cu (ix2 r (⟨j.1 % 128, Nat.mod_lt _ (by decide)⟩ : Fin 128))
    + (if h : r.1 < 128 then b0 (ix2 (⟨r.1, h⟩ : Fin 128) (⟨j.1 + 127 - r.1, by omega⟩ : Fin 1664))
       else b1 (ix2 (⟨r.1 - 128, by omega⟩ : Fin 128) (⟨j.1 + 127 - (r.1 - 128), by omega⟩ : Fin 1664)))
      * cv (ix2 r (⟨j.1 % 128, Nat.mod_lt _ (by decide)⟩ : Fin 128))

/-- The 128 by 128 block of a score table at row offset `o` and key offset `128 c`. -/
def chunk (G : Fin 256 → Fin 1536 → EReal) (o c : Nat) (ho : o + 128 ≤ 256) (hc : c < 12) : S128x128.Idx → EReal :=
  fun y => G ⟨o + (y 0).1, by have : (y 0).1 < 128 := (y 0).isLt; omega⟩
    ⟨128 * c + (y 1).1, by have : (y 1).1 < 128 := (y 1).isLt; omega⟩

/-- A rotation of row `r` by `1 + r` lanes: lane `l` receives lane `l - 1 - r` (cyclically). -/
theorem rot_apply (x : S128x128.Idx → EReal) (h : S128x128.Rotates 1 (some (1, 0))) (r l : Fin 128) :
    dynamicRotate 1 1#32 (some (1, 0)) x h (ix2 r l)
      = x (ix2 r (⟨(l.1 + 127 - r.1) % 128, Nat.mod_lt _ (by decide)⟩ : Fin 128)) := by
  unfold dynamicRotate
  refine congrArg x (funext fun b => ?_)
  match b with
  | ⟨0, _⟩ => rfl
  | ⟨1, _⟩ =>
    apply Fin.ext
    show (l.1 + 128 - (1 + 1 * r.1) % 128) % 128 = (l.1 + 127 - r.1) % 128
    have := r.isLt; have := l.isLt
    omega

/-- The mask "lane greater than row". -/
theorem mask_apply (r l : Fin 128) : k0_pay21 (ix2 r l) = BitVec.ofBool (decide (r.1 < l.1)) := by
  show BitVec.ofBool (BitVec.slt (BitVec.ofNat 32 (0 * 128 + r.1)) (BitVec.ofNat 32 (0 * 128 + l.1))) = _
  congr 1
  have := r.isLt; have := l.isLt
  have hw : ∀ n : Nat, n < 128 → (BitVec.ofNat 32 (0 * 128 + n)).toInt = n := by
    intro n hn
    rw [BitVec.toInt_eq_toNat_of_lt (by rw [BitVec.toNat_ofNat]; omega), BitVec.toNat_ofNat]
    congr 1
    omega
  rw [BitVec.slt_eq_decide, hw _ r.isLt, hw _ l.isLt]
  simp

/-- The relative shift: rotating two neighbouring chunks and taking the next one where the lane exceeds the row
    reads, in row `r` and lane `l`, the column `128 c + l + 127 - r` of the whole array. -/
theorem relshift_apply (c : Nat) (hc : c < 12) (b : S128x1664.Idx → EReal)
    (h1 : S128x1664.Slices ![0, 128 * (c + 1)] S128x128) (h0 : S128x1664.Slices ![0, 128 * c] S128x128)
    (hr hr' : S128x128.Rotates 1 (some (1, 0))) (r l : Fin 128) :
    select k0_pay21 (dynamicRotate 1 1#32 (some (1, 0)) (extractStridedSlice S128x128 ![0, 128 * (c + 1)] b h1) hr)
        (dynamicRotate 1 1#32 (some (1, 0)) (extractStridedSlice S128x128 ![0, 128 * c] b h0) hr') (ix2 r l)
      = b (ix2 r (⟨128 * c + l.1 + 127 - r.1, by have := r.isLt; have := l.isLt; omega⟩ : Fin 1664)) := by
  show Scalar.select (k0_pay21 (ix2 r l)) _ _ = _
  rw [mask_apply, rot_apply, rot_apply]
  have := r.isLt; have := l.isLt
  by_cases h : r.1 < l.1
  · simp only [h, decide_true]
    refine Eq.trans (if_pos rfl) ?_
    apply extractStridedSlice_apply
    intro a
    match a with
    | ⟨0, _⟩ => show r.1 = 0 + r.1; omega
    | ⟨1, _⟩ => show 128 * c + l.1 + 127 - r.1 = 128 * (c + 1) + (l.1 + 127 - r.1) % 128; omega
  · simp only [h, decide_false]
    refine Eq.trans (if_neg (by decide)) ?_
    apply extractStridedSlice_apply
    intro a
    match a with
    | ⟨0, _⟩ => show r.1 = 0 + r.1; omega
    | ⟨1, _⟩ => show 128 * c + l.1 + 127 - r.1 = 128 * c + (l.1 + 127 - r.1) % 128; omega

/-- A chunk payload of the first sub-block is its block of the score table. -/
theorem chunk0_eq (c : Nat) (hc : c < 12) (ac : S256x1536.Idx → EReal) (cu cv : S256x128.Idx → EReal)
    (b0 b1 : S128x1664.Idx → EReal)
    (ha : S256x1536.Slices ![0, 128 * c] S128x128) (hu hv : S256x128.Slices ![0, 0] S128x128)
    (h1 : S128x1664.Slices ![0, 128 * (c + 1)] S128x128) (h0 : S128x1664.Slices ![0, 128 * c] S128x128)
    (hr hr' : S128x128.Rotates 1 (some (1, 0))) :
    (addf (F := Ideal) (φ := .f32) (mulf (extractStridedSlice S128x128 ![0, 128 * c] ac ha) (extractStridedSlice S128x128 ![0, 0] cu hu))
      (mulf (select k0_pay21
          (dynamicRotate 1 1#32 (some (1, 0)) (extractStridedSlice S128x128 ![0, 128 * (c + 1)] b0 h1) hr)
          (dynamicRotate 1 1#32 (some (1, 0)) (extractStridedSlice S128x128 ![0, 128 * c] b0 h0) hr'))
        (extractStridedSlice S128x128 ![0, 0] cv hv)) : FVec Ideal S128x128 .f32)
      = chunk (scores ac cu cv b0 b1) 0 c (by decide) hc := by
  funext y
  obtain ⟨r, l, rfl⟩ : ∃ (r l : Fin 128), y = ix2 r l := ⟨y 0, y 1, eq_ix2 y⟩
  show (_ : EReal) * _ + _ * _ = _
  rw [relshift_apply c hc]
  have := r.isLt; have := l.isLt
  rw [extractStridedSlice_apply (![0, 128 * c] : Fin 2 → Nat) ac ha (ix2 r l)
      (ix2 (⟨r.1, by omega⟩ : Fin 256) (⟨128 * c + l.1, by omega⟩ : Fin 1536))
      (fun a => by match a with | ⟨0, _⟩ => (show r.1 = 0 + r.1; omega) | ⟨1, _⟩ => rfl),
    extractStridedSlice_apply (![0, 0] : Fin 2 → Nat) cu hu (ix2 r l)
      (ix2 (⟨r.1, by omega⟩ : Fin 256) l)
      (fun a => by match a with | ⟨0, _⟩ => (show r.1 = 0 + r.1; omega) | ⟨1, _⟩ => (show l.1 = 0 + l.1; omega)),
    extractStridedSlice_apply (![0, 0] : Fin 2 → Nat) cv hv (ix2 r l)
      (ix2 (⟨r.1, by omega⟩ : Fin 256) l)
      (fun a => by match a with | ⟨0, _⟩ => (show r.1 = 0 + r.1; omega) | ⟨1, _⟩ => (show l.1 = 0 + l.1; omega))]
  have e0 : (⟨0 + r.1, by omega⟩ : Fin 256) = ⟨r.1, by omega⟩ := Fin.ext (by simp)
  have e1 : (⟨(128 * c + l.1) % 128, Nat.mod_lt _ (by decide)⟩ : Fin 128) = l := Fin.ext (by show (128 * c + l.1) % 128 = l.1; omega)
  show _ = scores ac cu cv b0 b1 ⟨0 + r.1, _⟩ ⟨128 * c + l.1, _⟩
  rw [e0]
  unfold scores
  rw [dif_pos (show r.1 < 128 from r.isLt), e1]

/-- A chunk payload of the second sub-block is its block of the score table. -/
theorem chunk1_eq (c : Nat) (hc : c < 12) (ac : S256x1536.Idx → EReal) (cu cv : S256x128.Idx → EReal)
    (b0 b1 : S128x1664.Idx → EReal)
    (ha : S256x1536.Slices ![128, 128 * c] S128x128) (hu hv : S256x128.Slices ![128, 0] S128x128)
    (h1 : S128x1664.Slices ![0, 128 * (c + 1)] S128x128) (h0 : S128x1664.Slices ![0, 128 * c] S128x128)
    (hr hr' : S128x128.Rotates 1 (some (1, 0))) :
    (addf (F := Ideal) (φ := .f32) (mulf (extractStridedSlice S128x128 ![128, 128 * c] ac ha) (extractStridedSlice S128x128 ![128, 0] cu hu))
      (mulf (select k0_pay21
          (dynamicRotate 1 1#32 (some (1, 0)) (extractStridedSlice S128x128 ![0, 128 * (c + 1)] b1 h1) hr)
          (dynamicRotate 1 1#32 (some (1, 0)) (extractStridedSlice S128x128 ![0, 128 * c] b1 h0) hr'))
        (extractStridedSlice S128x128 ![128, 0] cv hv)) : FVec Ideal S128x128 .f32)
      = chunk (scores ac cu cv b0 b1) 128 c (by decide) hc := by
  funext y
  obtain ⟨r, l, rfl⟩ : ∃ (r l : Fin 128), y = ix2 r l := ⟨y 0, y 1, eq_ix2 y⟩
  show (_ : EReal) * _ + _ * _ = _
  rw [relshift_apply c hc]
  have := r.isLt; have := l.isLt
  rw [extractStridedSlice_apply (![128, 128 * c] : Fin 2 → Nat) ac ha (ix2 r l)
      (ix2 (⟨128 + r.1, by omega⟩ : Fin 256) (⟨128 * c + l.1, by omega⟩ : Fin 1536))
      (fun a => by match a with | ⟨0, _⟩ => rfl | ⟨1, _⟩ => rfl),
    extractStridedSlice_apply (![128, 0] : Fin 2 → Nat) cu hu (ix2 r l)
      (ix2 (⟨128 + r.1, by omega⟩ : Fin 256) l)
      (fun a => by match a with | ⟨0, _⟩ => rfl | ⟨1, _⟩ => (show l.1 = 0 + l.1; omega)),
    extractStridedSlice_apply (![128, 0] : Fin 2 → Nat) cv hv (ix2 r l)
      (ix2 (⟨128 + r.1, by omega⟩ : Fin 256) l)
      (fun a => by match a with | ⟨0, _⟩ => rfl | ⟨1, _⟩ => (show l.1 = 0 + l.1; omega))]
  have e1 : (⟨(128 * c + l.1) % 128, Nat.mod_lt _ (by decide)⟩ : Fin 128) = l := Fin.ext (by show (128 * c + l.1) % 128 = l.1; omega)
  have e2 : (⟨128 + r.1 - 128, by omega⟩ : Fin 128) = r := Fin.ext (by show 128 + r.1 - 128 = r.1; omega)
  have e3 : (⟨128 * c + l.1 + 127 - (128 + r.1 - 128), by omega⟩ : Fin 1664) = ⟨128 * c + l.1 + 127 - r.1, by omega⟩ :=
    Fin.ext (by show 128 * c + l.1 + 127 - (128 + r.1 - 128) = 128 * c + l.1 + 127 - r.1; omega)
  show _ = scores ac cu cv b0 b1 ⟨128 + r.1, _⟩ ⟨128 * c + l.1, _⟩
  unfold scores
  rw [dif_neg (show ¬ (128 + r.1 < 128) by omega), e1, e2, e3]

/-! ## The second pass: row maxima, exponentials, their sums and products with the values -/

/-- The greatest score of a row. -/
def rowMax (G : Fin 256 → Fin 1536 → EReal) (r : Fin 256) : EReal := Finset.univ.sup (G r)

/-- The exponential (base two) of a score less its row's greatest. -/
def expo (G : Fin 256 → Fin 1536 → EReal) (r : Fin 256) (j : Fin 1536) : EReal := Ideal.exp2 (G r j - rowMax G r)

/-- A row's normalised product with the values. -/
def attend (G : Fin 256 → Fin 1536 → EReal) (V : S1x1x1536x64.Idx → EReal) (vs : EReal) (r : Fin 256) (d : Fin 64) : EReal :=
  (∑ j : Fin 1536, expo G r j * V (ix4 (0 : Fin 1) (0 : Fin 1) j d)) * Ideal.div vs (∑ j : Fin 1536, expo G r j)

/-- A sum over 1536 keys, taken as 128 lanes of 12 chunks. -/
theorem sum_chunks {M : Type} [AddCommMonoid M] (f : Fin 1536 → M) :
    ∑ j, f j = ∑ l : Fin 128, ∑ c : Fin 12, f ⟨128 * c.1 + l.1, by have := c.isLt; have := l.isLt; omega⟩ := by
  rw [Finset.sum_comm, ← Fintype.sum_prod_type (f := fun p : Fin 12 × Fin 128 => f ⟨128 * p.1.1 + p.2.1, by have := p.1.isLt; have := p.2.isLt; omega⟩)]
  rw [← Equiv.sum_comp (finProdFinEquiv (m := 12) (n := 128))]
  refine Finset.sum_congr rfl fun p _ => congrArg f (Fin.ext ?_)
  show p.2.1 + 128 * p.1.1 = 128 * p.1.1 + p.2.1
  omega

/-- A maximum over 1536 keys, taken as 128 lanes of 12 chunks. -/
theorem sup_chunks (f : Fin 1536 → EReal) :
    (Finset.univ.sup fun l : Fin 128 => Finset.univ.sup fun c : Fin 12 =>
      f ⟨128 * c.1 + l.1, by have := c.isLt; have := l.isLt; omega⟩) = Finset.univ.sup f := by
  apply le_antisymm
  · exact Finset.sup_le fun l _ => Finset.sup_le fun c _ => Finset.le_sup (f := f) (Finset.mem_univ _)
  · refine Finset.sup_le fun j _ => ?_
    have hj := j.isLt
    have : f j = f ⟨128 * (j.1 / 128) + j.1 % 128, by omega⟩ := congrArg f (Fin.ext (by show j.1 = 128 * (j.1 / 128) + j.1 % 128; omega))
    rw [this]
    exact le_trans (Finset.le_sup (f := fun c : Fin 12 => f ⟨128 * c.1 + j.1 % 128, by have := c.isLt; omega⟩)
        (Finset.mem_univ (⟨j.1 / 128, by omega⟩ : Fin 12)))
      (Finset.le_sup (f := fun l : Fin 128 => Finset.univ.sup fun c : Fin 12 =>
        f ⟨128 * c.1 + l.1, by have := c.isLt; have := l.isLt; omega⟩) (Finset.mem_univ (⟨j.1 % 128, Nat.mod_lt _ (by decide)⟩ : Fin 128)))

/-- The pattern of minus infinity. -/
theorem ofBits_neg_inf : Ideal.ofBits .f32 0xFF800000#32 = ⊥ := by
  simp [Ideal.ofBits, Ideal.ieee]

/-- Twelve values, the greatest taken one after the other. -/
theorem max12 (f : Fin 12 → EReal) :
    max (max (max (max (max (max (max (max (max (max (max (f 0) (f 1)) (f 2)) (f 3)) (f 4)) (f 5)) (f 6)) (f 7)) (f 8)) (f 9)) (f 10)) (f 11)
      = Finset.univ.sup f := by
  have h : ∀ c, f c ≤ Finset.univ.sup f := fun c => Finset.le_sup (Finset.mem_univ c)
  apply le_antisymm
  · simp only [max_le_iff]
    simp only [h, and_self]
  · refine Finset.sup_le fun c _ => ?_
    simp only [le_max_iff]
    fin_cases c <;> simp

/-- Twelve values, added one after the other. -/
theorem add12 (f : Fin 12 → EReal) :
    f 0 + f 1 + f 2 + f 3 + f 4 + f 5 + f 6 + f 7 + f 8 + f 9 + f 10 + f 11 = ∑ c, f c := by
  simp only [Fin.sum_univ_castSucc, Finset.univ_eq_empty, Finset.sum_empty, zero_add]
  rfl

/-- The greatest score of each row of a sub-block, repeated along the lanes. -/
def maxB (G : Fin 256 → Fin 1536 → EReal) (o : Nat) (ho : o + 128 ≤ 256) : S128x128.Idx → EReal :=
  fun y => rowMax G ⟨o + (y 0).1, by have : (y 0).1 < 128 := (y 0).isLt; omega⟩

/-- The maximum of twelve chunks, then along the lanes, is the row's greatest score. -/
theorem maxB_of (G : Fin 256 → Fin 1536 → EReal) (o : Nat) (ho : o + 128 ≤ 256)
    {p0 p1 p2 p3 p4 p5 p6 p7 p8 p9 p10 p11 : FVec Ideal S128x128 .f32}
    (h0 : p0 = chunk G o 0 ho (by decide)) (h1 : p1 = chunk G o 1 ho (by decide)) (h2 : p2 = chunk G o 2 ho (by decide))
    (h3 : p3 = chunk G o 3 ho (by decide)) (h4 : p4 = chunk G o 4 ho (by decide)) (h5 : p5 = chunk G o 5 ho (by decide))
    (h6 : p6 = chunk G o 6 ho (by decide)) (h7 : p7 = chunk G o 7 ho (by decide)) (h8 : p8 = chunk G o 8 ho (by decide))
    (h9 : p9 = chunk G o 9 ho (by decide)) (h10 : p10 = chunk G o 10 ho (by decide)) (h11 : p11 = chunk G o 11 ho (by decide)) :
    broadcastTo S128x128 (shapeCast S128x1 (shapeCast S128x1 (multiReduction .maximumf [1] S128
        (maximumf (maximumf (maximumf (maximumf (maximumf (maximumf (maximumf (maximumf (maximumf (maximumf (maximumf
          p0 p1) p2) p3) p4) p5) p6) p7) p8) p9) p10) p11)
        0xFF800000#32 reduces_S128x128_S128 (.inl rfl) rfl) shapeCasts_S128_S128x1) shapeCasts_S128x1_S128x1) broadcasts_S128x1_S128x128
      = maxB G o ho := by
  have hT : maximumf (maximumf (maximumf (maximumf (maximumf (maximumf (maximumf (maximumf (maximumf (maximumf (maximumf
          p0 p1) p2) p3) p4) p5) p6) p7) p8) p9) p10) p11
      = fun y => Finset.univ.sup fun c : Fin 12 => chunk G o c.1 ho c.2 y := by
    subst h0 h1 h2 h3 h4 h5 h6 h7 h8 h9 h10 h11
    funext y
    exact max12 fun c => chunk G o c.1 ho c.2 y
  rw [hT]
  generalize hg : (fun y => Finset.univ.sup fun c : Fin 12 => chunk G o c.1 ho c.2 y : FVec Ideal S128x128 .f32) = T
  funext y
  obtain ⟨r, l, rfl⟩ : ∃ (r l : Fin 128), y = ix2 r l := ⟨y 0, y 1, eq_ix2 y⟩
  have h : broadcastTo S128x128 (shapeCast S128x1 (shapeCast S128x1 (multiReduction .maximumf [1] S128
        T 0xFF800000#32 reduces_S128x128_S128 (.inl rfl) rfl) shapeCasts_S128_S128x1) shapeCasts_S128x1_S128x1) broadcasts_S128x1_S128x128
          (ix2 r l)
      = Finset.fold max (Ideal.ofBits FTy.f32 4286578688#32) (fun x => T (ix2 r x)) Finset.univ := by
    pointwise
  rw [h, ofBits_neg_inf, ← hg]
  exact sup_chunks (G ⟨o + r.1, by have := r.isLt; omega⟩)

/-- The exponential of a chunk less the row's greatest score. -/
theorem exp_chunk (G : Fin 256 → Fin 1536 → EReal) (o c : Nat) (ho : o + 128 ≤ 256) (hc : c < 12) :
    exp2 (subf (F := Ideal) (φ := .f32) (chunk G o c ho hc) (maxB G o ho)) = chunk (expo G) o c ho hc := rfl

/-- Twelve chunks side by side are the rows of the whole table. -/
theorem concat_chunks (P : Fin 256 → Fin 1536 → EReal) (o : Nat) (ho : o + 128 ≤ 256)
    {p0 p1 p2 p3 p4 p5 p6 p7 p8 p9 p10 p11 : S128x128.Idx → EReal}
    (h0 : p0 = chunk P o 0 ho (by decide)) (h1 : p1 = chunk P o 1 ho (by decide)) (h2 : p2 = chunk P o 2 ho (by decide))
    (h3 : p3 = chunk P o 3 ho (by decide)) (h4 : p4 = chunk P o 4 ho (by decide)) (h5 : p5 = chunk P o 5 ho (by decide))
    (h6 : p6 = chunk P o 6 ho (by decide)) (h7 : p7 = chunk P o 7 ho (by decide)) (h8 : p8 = chunk P o 8 ho (by decide))
    (h9 : p9 = chunk P o 9 ho (by decide)) (h10 : p10 = chunk P o 10 ho (by decide)) (h11 : p11 = chunk P o 11 ho (by decide))
    (h : Shape.Concatenates [S128x128, S128x128, S128x128, S128x128, S128x128, S128x128, S128x128, S128x128, S128x128, S128x128, S128x128, S128x128] S128x1536 1) :
    (concatenate S128x1536 1 [⟨S128x128, p0⟩, ⟨S128x128, p1⟩, ⟨S128x128, p2⟩, ⟨S128x128, p3⟩, ⟨S128x128, p4⟩, ⟨S128x128, p5⟩,
        ⟨S128x128, p6⟩, ⟨S128x128, p7⟩, ⟨S128x128, p8⟩, ⟨S128x128, p9⟩, ⟨S128x128, p10⟩, ⟨S128x128, p11⟩] h : S128x1536.Idx → EReal)
      = fun z => P ⟨o + (z 0).1, by have : (z 0).1 < 128 := (z 0).isLt; omega⟩ (z 1) := by
  subst h0 h1 h2 h3 h4 h5 h6 h7 h8 h9 h10 h11
  funext z
  have hz : (z 1).1 < 1536 := (z 1).isLt
  refine (concatenate_ofFn_apply (t := S128x1536) (s₁ := S128x128) 1 (fun c : Fin 12 => chunk P o c.1 ho c.2) h rfl 128 rfl z
    ⟨(z 1).1 / 128, by omega⟩ rfl (ix2 (z 0 : Fin 128) (⟨(z 1).1 % 128, Nat.mod_lt _ (by decide)⟩ : Fin 128)) rfl
    (fun b hb => by match b with | ⟨0, _⟩ => rfl | ⟨1, _⟩ => exact absurd rfl hb)).trans ?_
  refine congrArg (P _) (Fin.ext ?_)
  show 128 * ((z 1).1 / 128) + (z 1).1 % 128 = (z 1).1
  omega

/-- The whole second pass of a sub-block: products of the exponentials with the values, divided by their sum and scaled. -/
theorem attend_of (G : Fin 256 → Fin 1536 → EReal) (o : Nat) (ho : o + 128 ≤ 256) (V : FVec Ideal S1x1x1536x64 .fp8e4m3) (vs : Ideal .f32)
    (P : FVec Ideal S128x1536 .bf16) (T : FVec Ideal S128x128 .f32)
    (hP : P = fun z => expo G ⟨o + (z 0).1, by have : (z 0).1 < 128 := (z 0).isLt; omega⟩ (z 1))
    (hT : T = fun y => ∑ c : Fin 12, chunk (expo G) o c.1 ho c.2 y) :
    shapeCast S1x1x128x64 (truncf (F := Ideal) .bf16 (mulf (matmul dot_S128x1536_S1536x64_S128x64_1_0_0_1_n_n none P
        (extf .bf16 (shapeCast S1536x64 V shapeCasts_S1x1x1536x64_S1536x64) bitsLt_fp8e4m3_bf16) (constant S128x64 .f32 0x00000000#32))
      (broadcastTo S128x64 (divf (broadcast S128x1 vs) (shapeCast S128x1
        (multiReduction .add [1] S128 T 0x00000000#32 reduces_S128x128_S128 (.inl rfl) rfl) shapeCasts_S128_S128x1))
        broadcasts_S128x1_S128x64)) bitsLt_bf16_f32) shapeCasts_S128x64_S1x1x128x64
      = fun w => attend G V vs ⟨o + (w 2).1, by have : (w 2).1 < 128 := (w 2).isLt; omega⟩ (w 3) := by
  funext w
  obtain ⟨a, b, r, d, rfl⟩ : ∃ (a b : Fin 1) (r : Fin 128) (d : Fin 64), w = ix4 a b r d := ⟨w 0, w 1, w 2, w 3, eq_ix4 w⟩
  obtain rfl : a = 0 := Subsingleton.elim _ _
  obtain rfl : b = 0 := Subsingleton.elim _ _
  have h : shapeCast S1x1x128x64 (truncf (F := Ideal) .bf16 (mulf (matmul dot_S128x1536_S1536x64_S128x64_1_0_0_1_n_n none P
        (extf .bf16 (shapeCast S1536x64 V shapeCasts_S1x1x1536x64_S1536x64) bitsLt_fp8e4m3_bf16) (constant S128x64 .f32 0x00000000#32))
      (broadcastTo S128x64 (divf (broadcast S128x1 vs) (shapeCast S128x1
        (multiReduction .add [1] S128 T 0x00000000#32 reduces_S128x128_S128 (.inl rfl) rfl) shapeCasts_S128_S128x1))
        broadcasts_S128x1_S128x64)) bitsLt_bf16_f32) shapeCasts_S128x64_S1x1x128x64 (ix4 (0 : Fin 1) (0 : Fin 1) r d)
      = (∑ x : Fin 1536, P (ix2 r x) * V (ix4 (0 : Fin 1) (0 : Fin 1) x d)) * Ideal.div vs (∑ x : Fin 128, T (ix2 r x)) := by
    pointwise
  rw [h, hP, hT]
  show _ = attend G V vs ⟨o + r.1, _⟩ d
  exact congrArg (fun t : EReal => (∑ j : Fin 1536, expo G ⟨o + r.1, by have := r.isLt; omega⟩ j * V (ix4 (0 : Fin 1) (0 : Fin 1) j d))
    * Ideal.div vs t) (sum_chunks (expo G ⟨o + r.1, by have := r.isLt; omega⟩)).symm

end Cert.Proof.Kern

end
-- ==== Proof.ChunkPays.lean ====
/- The payloads of the kernel that hold a chunk of scores, each read as its block of the score table; and the
   payloads of the second pass. -/
module

public import proofs.«01_k».proof.Proof.Chunks

@[expose] public section

noncomputable section

namespace Cert.Proof.Kern

open Idealize.ShloMosaic Cert.KernelIdeal Cert.KernelIdeal.Gen
open scoped BigOperators

section pays

variable (cu cv : FVec Ideal S256x128 .f32) (ac : FVec Ideal S256x1536 .f32) (qv : FVec Ideal S256x64 .fp8e4m3)
  (qs : FVec Ideal S128x64 .fp8e4m3) (p : Vec Ideal S1x1664x64 .fp8e4m3) (b : S128x1664.Idx → EReal)

/-- First sub-block, chunk 0. -/
theorem raw0_0 : k0_pay37 cu cv ac k0_pay21 (k0_pay23 qv p) (k0_pay24 qv p) = chunk (scores ac cu cv (k0_pay22 qv p) b) 0 0 (by decide) (by decide) :=
  chunk0_eq 0 (by decide) ac cu cv (k0_pay22 qv p) b slices_S256x1536_o0_0_S128x128 slices_S256x128_o0_0_S128x128 slices_S256x128_o0_0_S128x128
    slices_S128x1664_o0_128_S128x128 slices_S128x1664_o0_0_S128x128 rotates_S128x128_d1s1a0 rotates_S128x128_d1s1a0

/-- First sub-block, chunk 0 as stored. -/
theorem sto0_0 : k0_pay38 cu cv ac k0_pay21 (k0_pay23 qv p) (k0_pay24 qv p) = chunk (scores ac cu cv (k0_pay22 qv p) b) 0 0 (by decide) (by decide) :=
  (shapeCast_self _ _).trans (raw0_0 cu cv ac qv p b)

/-- First sub-block, chunk 1. -/
theorem raw0_1 : k0_pay39 cu cv ac k0_pay21 (k0_pay24 qv p) (k0_pay25 qv p) = chunk (scores ac cu cv (k0_pay22 qv p) b) 0 1 (by decide) (by decide) :=
  chunk0_eq 1 (by decide) ac cu cv (k0_pay22 qv p) b slices_S256x1536_o0_128_S128x128 slices_S256x128_o0_0_S128x128 slices_S256x128_o0_0_S128x128
    slices_S128x1664_o0_256_S128x128 slices_S128x1664_o0_128_S128x128 rotates_S128x128_d1s1a0 rotates_S128x128_d1s1a0

/-- First sub-block, chunk 1 as stored. -/
theorem sto0_1 : k0_pay40 cu cv ac k0_pay21 (k0_pay24 qv p) (k0_pay25 qv p) = chunk (scores ac cu cv (k0_pay22 qv p) b) 0 1 (by decide) (by decide) :=
  (shapeCast_self _ _).trans (raw0_1 cu cv ac qv p b)

/-- First sub-block, chunk 2. -/
theorem raw0_2 : k0_pay41 cu cv ac k0_pay21 (k0_pay25 qv p) (k0_pay26 qv p) = chunk (scores ac cu cv (k0_pay22 qv p) b) 0 2 (by decide) (by decide) :=
  chunk0_eq 2 (by decide) ac cu cv (k0_pay22 qv p) b slices_S256x1536_o0_256_S128x128 slices_S256x128_o0_0_S128x128 slices_S256x128_o0_0_S128x128
    slices_S128x1664_o0_384_S128x128 slices_S128x1664_o0_256_S128x128 rotates_S128x128_d1s1a0 rotates_S128x128_d1s1a0

/-- First sub-block, chunk 2 as stored. -/
theorem sto0_2 : k0_pay42 cu cv ac k0_pay21 (k0_pay25 qv p) (k0_pay26 qv p) = chunk (scores ac cu cv (k0_pay22 qv p) b) 0 2 (by decide) (by decide) :=
  (shapeCast_self _ _).trans (raw0_2 cu cv ac qv p b)

/-- First sub-block, chunk 3. -/
theorem raw0_3 : k0_pay44 cu cv ac k0_pay21 (k0_pay26 qv p) (k0_pay27 qv p) = chunk (scores ac cu cv (k0_pay22 qv p) b) 0 3 (by decide) (by decide) :=
  chunk0_eq 3 (by decide) ac cu cv (k0_pay22 qv p) b slices_S256x1536_o0_384_S128x128 slices_S256x128_o0_0_S128x128 slices_S256x128_o0_0_S128x128
    slices_S128x1664_o0_512_S128x128 slices_S128x1664_o0_384_S128x128 rotates_S128x128_d1s1a0 rotates_S128x128_d1s1a0

/-- First sub-block, chunk 3 as stored. -/
theorem sto0_3 : k0_pay45 cu cv ac k0_pay21 (k0_pay26 qv p) (k0_pay27 qv p) = chunk (scores ac cu cv (k0_pay22 qv p) b) 0 3 (by decide) (by decide) :=
  (shapeCast_self _ _).trans (raw0_3 cu cv ac qv p b)

/-- First sub-block, chunk 4. -/
theorem raw0_4 : k0_pay46 cu cv ac k0_pay21 (k0_pay27 qv p) (k0_pay28 qv p) = chunk (scores ac cu cv (k0_pay22 qv p) b) 0 4 (by decide) (by decide) :=
  chunk0_eq 4 (by decide) ac cu cv (k0_pay22 qv p) b slices_S256x1536_o0_512_S128x128 slices_S256x128_o0_0_S128x128 slices_S256x128_o0_0_S128x128
    slices_S128x1664_o0_640_S128x128 slices_S128x1664_o0_512_S128x128 rotates_S128x128_d1s1a0 rotates_S128x128_d1s1a0

/-- First sub-block, chunk 4 as stored. -/
theorem sto0_4 : k0_pay47 cu cv ac k0_pay21 (k0_pay27 qv p) (k0_pay28 qv p) = chunk (scores ac cu cv (k0_pay22 qv p) b) 0 4 (by decide) (by decide) :=
  (shapeCast_self _ _).trans (raw0_4 cu cv ac qv p b)

/-- First sub-block, chunk 5. -/
theorem raw0_5 : k0_pay48 cu cv ac k0_pay21 (k0_pay28 qv p) (k0_pay29 qv p) = chunk (scores ac cu cv (k0_pay22 qv p) b) 0 5 (by decide) (by decide) :=
  chunk0_eq 5 (by decide) ac cu cv (k0_pay22 qv p) b slices_S256x1536_o0_640_S128x128 slices_S256x128_o0_0_S128x128 slices_S256x128_o0_0_S128x128
    slices_S128x1664_o0_768_S128x128 slices_S128x1664_o0_640_S128x128 rotates_S128x128_d1s1a0 rotates_S128x128_d1s1a0

/-- First sub-block, chunk 5 as stored. -/
theorem sto0_5 : k0_pay49 cu cv ac k0_pay21 (k0_pay28 qv p) (k0_pay29 qv p) = chunk (scores ac cu cv (k0_pay22 qv p) b) 0 5 (by decide) (by decide) :=
  (shapeCast_self _ _).trans (raw0_5 cu cv ac qv p b)

/-- First sub-block, chunk 6. -/
theorem raw0_6 : k0_pay50 cu cv ac k0_pay21 (k0_pay29 qv p) (k0_pay30 qv p) = chunk (scores ac cu cv (k0_pay22 qv p) b) 0 6 (by decide) (by decide) :=
  chunk0_eq 6 (by decide) ac cu cv (k0_pay22 qv p) b slices_S256x1536_o0_768_S128x128 slices_S256x128_o0_0_S128x128 slices_S256x128_o0_0_S128x128
    slices_S128x1664_o0_896_S128x128 slices_S128x1664_o0_768_S128x128 rotates_S128x128_d1s1a0 rotates_S128x128_d1s1a0

/-- First sub-block, chunk 6 as stored. -/
theorem sto0_6 : k0_pay51 cu cv ac k0_pay21 (k0_pay29 qv p) (k0_pay30 qv p) = chunk (scores ac cu cv (k0_pay22 qv p) b) 0 6 (by decide) (by decide) :=
  (shapeCast_self _ _).trans (raw0_6 cu cv ac qv p b)

/-- First sub-block, chunk 7. -/
theorem raw0_7 : k0_pay52 cu cv ac k0_pay21 (k0_pay30 qv p) (k0_pay31 qv p) = chunk (scores ac cu cv (k0_pay22 qv p) b) 0 7 (by decide) (by decide) :=
  chunk0_eq 7 (by decide) ac cu cv (k0_pay22 qv p) b slices_S256x1536_o0_896_S128x128 slices_S256x128_o0_0_S128x128 slices_S256x128_o0_0_S128x128
    slices_S128x1664_o0_1024_S128x128 slices_S128x1664_o0_896_S128x128 rotates_S128x128_d1s1a0 rotates_S128x128_d1s1a0

/-- First sub-block, chunk 7 as stored. -/
theorem sto0_7 : k0_pay53 cu cv ac k0_pay21 (k0_pay30 qv p) (k0_pay31 qv p) = chunk (scores ac cu cv (k0_pay22 qv p) b) 0 7 (by decide) (by decide) :=
  (shapeCast_self _ _).trans (raw0_7 cu cv ac qv p b)

/-- First sub-block, chunk 8. -/
theorem raw0_8 : k0_pay57 cu cv (k0_pay55 k0_pay21 (k0_pay31 qv p) (k0_pay32 qv p)) (k0_pay56 ac) = chunk (scores ac cu cv (k0_pay22 qv p) b) 0 8 (by decide) (by decide) :=
  chunk0_eq 8 (by decide) ac cu cv (k0_pay22 qv p) b slices_S256x1536_o0_1024_S128x128 slices_S256x128_o0_0_S128x128 slices_S256x128_o0_0_S128x128
    slices_S128x1664_o0_1152_S128x128 slices_S128x1664_o0_1024_S128x128 rotates_S128x128_d1s1a0 rotates_S128x128_d1s1a0

/-- First sub-block, chunk 8 as stored. -/
theorem sto0_8 : k0_pay58 cu cv (k0_pay55 k0_pay21 (k0_pay31 qv p) (k0_pay32 qv p)) (k0_pay56 ac) = chunk (scores ac cu cv (k0_pay22 qv p) b) 0 8 (by decide) (by decide) :=
  (shapeCast_self _ _).trans (raw0_8 cu cv ac qv p b)

/-- First sub-block, chunk 9. -/
theorem raw0_9 : k0_pay59 cu cv ac k0_pay21 (k0_pay32 qv p) (k0_pay34 (k0_pay33 qv p) 1#32) = chunk (scores ac cu cv (k0_pay22 qv p) b) 0 9 (by decide) (by decide) :=
  chunk0_eq 9 (by decide) ac cu cv (k0_pay22 qv p) b slices_S256x1536_o0_1152_S128x128 slices_S256x128_o0_0_S128x128 slices_S256x128_o0_0_S128x128
    slices_S128x1664_o0_1280_S128x128 slices_S128x1664_o0_1152_S128x128 rotates_S128x128_d1s1a0 rotates_S128x128_d1s1a0

/-- First sub-block, chunk 9 as stored. -/
theorem sto0_9 : k0_pay60 cu cv ac k0_pay21 (k0_pay32 qv p) (k0_pay34 (k0_pay33 qv p) 1#32) = chunk (scores ac cu cv (k0_pay22 qv p) b) 0 9 (by decide) (by decide) :=
  (shapeCast_self _ _).trans (raw0_9 cu cv ac qv p b)

/-- First sub-block, chunk 10. -/
theorem raw0_10 : k0_pay61 cu cv ac k0_pay21 (k0_pay34 (k0_pay33 qv p) 1#32) (k0_pay35 (k0_pay22 qv p)) = chunk (scores ac cu cv (k0_pay22 qv p) b) 0 10 (by decide) (by decide) :=
  chunk0_eq 10 (by decide) ac cu cv (k0_pay22 qv p) b slices_S256x1536_o0_1280_S128x128 slices_S256x128_o0_0_S128x128 slices_S256x128_o0_0_S128x128
    slices_S128x1664_o0_1408_S128x128 slices_S128x1664_o0_1280_S128x128 rotates_S128x128_d1s1a0 rotates_S128x128_d1s1a0

/-- First sub-block, chunk 10 as stored. -/
theorem sto0_10 : k0_pay62 cu cv ac k0_pay21 (k0_pay34 (k0_pay33 qv p) 1#32) (k0_pay35 (k0_pay22 qv p)) = chunk (scores ac cu cv (k0_pay22 qv p) b) 0 10 (by decide) (by decide) :=
  (shapeCast_self _ _).trans (raw0_10 cu cv ac qv p b)

/-- First sub-block, chunk 11. -/
theorem raw0_11 : k0_pay63 cu cv ac k0_pay21 (k0_pay35 (k0_pay22 qv p)) (k0_pay36 (k0_pay22 qv p)) = chunk (scores ac cu cv (k0_pay22 qv p) b) 0 11 (by decide) (by decide) :=
  chunk0_eq 11 (by decide) ac cu cv (k0_pay22 qv p) b slices_S256x1536_o0_1408_S128x128 slices_S256x128_o0_0_S128x128 slices_S256x128_o0_0_S128x128
    slices_S128x1664_o0_1536_S128x128 slices_S128x1664_o0_1408_S128x128 rotates_S128x128_d1s1a0 rotates_S128x128_d1s1a0

/-- First sub-block, chunk 11 as stored. -/
theorem sto0_11 : k0_pay64 cu cv ac k0_pay21 (k0_pay35 (k0_pay22 qv p)) (k0_pay36 (k0_pay22 qv p)) = chunk (scores ac cu cv (k0_pay22 qv p) b) 0 11 (by decide) (by decide) :=
  (shapeCast_self _ _).trans (raw0_11 cu cv ac qv p b)

/-- Second sub-block, chunk 0. -/
theorem raw1_0 : k0_pay99 cu cv ac k0_pay21 qs p = chunk (scores ac cu cv b (k0_pay86 qs p)) 128 0 (by decide) (by decide) :=
  chunk1_eq 0 (by decide) ac cu cv b (k0_pay86 qs p) slices_S256x1536_o128_0_S128x128 slices_S256x128_o128_0_S128x128 slices_S256x128_o128_0_S128x128
    slices_S128x1664_o0_128_S128x128 slices_S128x1664_o0_0_S128x128 rotates_S128x128_d1s1a0 rotates_S128x128_d1s1a0

/-- Second sub-block, chunk 0 as stored. -/
theorem sto1_0 : k0_pay100 cu cv ac k0_pay21 qs p = chunk (scores ac cu cv b (k0_pay86 qs p)) 128 0 (by decide) (by decide) :=
  (shapeCast_self _ _).trans (raw1_0 cu cv ac qs p b)

/-- Second sub-block, chunk 1. -/
theorem raw1_1 : k0_pay103 cv (k0_pay101 k0_pay21 qs p) (k0_pay102 cu ac) = chunk (scores ac cu cv b (k0_pay86 qs p)) 128 1 (by decide) (by decide) :=
  chunk1_eq 1 (by decide) ac cu cv b (k0_pay86 qs p) slices_S256x1536_o128_128_S128x128 slices_S256x128_o128_0_S128x128 slices_S256x128_o128_0_S128x128
    slices_S128x1664_o0_256_S128x128 slices_S128x1664_o0_128_S128x128 rotates_S128x128_d1s1a0 rotates_S128x128_d1s1a0

/-- Second sub-block, chunk 1 as stored. -/
theorem sto1_1 : k0_pay104 cv (k0_pay101 k0_pay21 qs p) (k0_pay102 cu ac) = chunk (scores ac cu cv b (k0_pay86 qs p)) 128 1 (by decide) (by decide) :=
  (shapeCast_self _ _).trans (raw1_1 cu cv ac qs p b)

/-- Second sub-block, chunk 2. -/
theorem raw1_2 : k0_pay105 cu cv ac k0_pay21 (k0_pay88 qs p) (k0_pay89 qs p) = chunk (scores ac cu cv b (k0_pay86 qs p)) 128 2 (by decide) (by decide) :=
  chunk1_eq 2 (by decide) ac cu cv b (k0_pay86 qs p) slices_S256x1536_o128_256_S128x128 slices_S256x128_o128_0_S128x128 slices_S256x128_o128_0_S128x128
    slices_S128x1664_o0_384_S128x128 slices_S128x1664_o0_256_S128x128 rotates_S128x128_d1s1a0 rotates_S128x128_d1s1a0

/-- Second sub-block, chunk 2 as stored. -/
theorem sto1_2 : k0_pay106 cu cv ac k0_pay21 (k0_pay88 qs p) (k0_pay89 qs p) = chunk (scores ac cu cv b (k0_pay86 qs p)) 128 2 (by decide) (by decide) :=
  (shapeCast_self _ _).trans (raw1_2 cu cv ac qs p b)

/-- Second sub-block, chunk 3. -/
theorem raw1_3 : k0_pay107 cu cv ac k0_pay21 (k0_pay89 qs p) (k0_pay90 qs p) = chunk (scores ac cu cv b (k0_pay86 qs p)) 128 3 (by decide) (by decide) :=
  chunk1_eq 3 (by decide) ac cu cv b (k0_pay86 qs p) slices_S256x1536_o128_384_S128x128 slices_S256x128_o128_0_S128x128 slices_S256x128_o128_0_S128x128
    slices_S128x1664_o0_512_S128x128 slices_S128x1664_o0_384_S128x128 rotates_S128x128_d1s1a0 rotates_S128x128_d1s1a0

/-- Second sub-block, chunk 3 as stored. -/
theorem sto1_3 : k0_pay108 cu cv ac k0_pay21 (k0_pay89 qs p) (k0_pay90 qs p) = chunk (scores ac cu cv b (k0_pay86 qs p)) 128 3 (by decide) (by decide) :=
  (shapeCast_self _ _).trans (raw1_3 cu cv ac qs p b)

/-- Second sub-block, chunk 4. -/
theorem raw1_4 : k0_pay109 cu cv ac k0_pay21 (k0_pay90 qs p) (k0_pay91 qs p) = chunk (scores ac cu cv b (k0_pay86 qs p)) 128 4 (by decide) (by decide) :=
  chunk1_eq 4 (by decide) ac cu cv b (k0_pay86 qs p) slices_S256x1536_o128_512_S128x128 slices_S256x128_o128_0_S128x128 slices_S256x128_o128_0_S128x128
    slices_S128x1664_o0_640_S128x128 slices_S128x1664_o0_512_S128x128 rotates_S128x128_d1s1a0 rotates_S128x128_d1s1a0

/-- Second sub-block, chunk 4 as stored. -/
theorem sto1_4 : k0_pay110 cu cv ac k0_pay21 (k0_pay90 qs p) (k0_pay91 qs p) = chunk (scores ac cu cv b (k0_pay86 qs p)) 128 4 (by decide) (by decide) :=
  (shapeCast_self _ _).trans (raw1_4 cu cv ac qs p b)

/-- Second sub-block, chunk 5. -/
theorem raw1_5 : k0_pay112 cu cv ac k0_pay21 (k0_pay91 qs p) (k0_pay92 qs p) = chunk (scores ac cu cv b (k0_pay86 qs p)) 128 5 (by decide) (by decide) :=
  chunk1_eq 5 (by decide) ac cu cv b (k0_pay86 qs p) slices_S256x1536_o128_640_S128x128 slices_S256x128_o128_0_S128x128 slices_S256x128_o128_0_S128x128
    slices_S128x1664_o0_768_S128x128 slices_S128x1664_o0_640_S128x128 rotates_S128x128_d1s1a0 rotates_S128x128_d1s1a0

/-- Second sub-block, chunk 5 as stored. -/
theorem sto1_5 : k0_pay113 (k0_pay112 cu cv ac k0_pay21 (k0_pay91 qs p) (k0_pay92 qs p)) = chunk (scores ac cu cv b (k0_pay86 qs p)) 128 5 (by decide) (by decide) :=
  (shapeCast_self _ _).trans (raw1_5 cu cv ac qs p b)

/-- Second sub-block, chunk 6. -/
theorem raw1_6 : k0_pay114 cu cv ac k0_pay21 (k0_pay92 qs p) (k0_pay93 qs p) = chunk (scores ac cu cv b (k0_pay86 qs p)) 128 6 (by decide) (by decide) :=
  chunk1_eq 6 (by decide) ac cu cv b (k0_pay86 qs p) slices_S256x1536_o128_768_S128x128 slices_S256x128_o128_0_S128x128 slices_S256x128_o128_0_S128x128
    slices_S128x1664_o0_896_S128x128 slices_S128x1664_o0_768_S128x128 rotates_S128x128_d1s1a0 rotates_S128x128_d1s1a0

/-- Second sub-block, chunk 6 as stored. -/
theorem sto1_6 : k0_pay115 cu cv ac k0_pay21 (k0_pay92 qs p) (k0_pay93 qs p) = chunk (scores ac cu cv b (k0_pay86 qs p)) 128 6 (by decide) (by decide) :=
  (shapeCast_self _ _).trans (raw1_6 cu cv ac qs p b)

/-- Second sub-block, chunk 7. -/
theorem raw1_7 : k0_pay116 cu cv ac k0_pay21 (k0_pay93 qs p) (k0_pay94 qs p) = chunk (scores ac cu cv b (k0_pay86 qs p)) 128 7 (by decide) (by decide) :=
  chunk1_eq 7 (by decide) ac cu cv b (k0_pay86 qs p) slices_S256x1536_o128_896_S128x128 slices_S256x128_o128_0_S128x128 slices_S256x128_o128_0_S128x128
    slices_S128x1664_o0_1024_S128x128 slices_S128x1664_o0_896_S128x128 rotates_S128x128_d1s1a0 rotates_S128x128_d1s1a0

/-- Second sub-block, chunk 7 as stored. -/
theorem sto1_7 : k0_pay117 cu cv ac k0_pay21 (k0_pay93 qs p) (k0_pay94 qs p) = chunk (scores ac cu cv b (k0_pay86 qs p)) 128 7 (by decide) (by decide) :=
  (shapeCast_self _ _).trans (raw1_7 cu cv ac qs p b)

/-- Second sub-block, chunk 8. -/
theorem raw1_8 : k0_pay118 cu cv ac k0_pay21 (k0_pay94 qs p) (k0_pay95 qs p) = chunk (scores ac cu cv b (k0_pay86 qs p)) 128 8 (by decide) (by decide) :=
  chunk1_eq 8 (by decide) ac cu cv b (k0_pay86 qs p) slices_S256x1536_o128_1024_S128x128 slices_S256x128_o128_0_S128x128 slices_S256x128_o128_0_S128x128
    slices_S128x1664_o0_1152_S128x128 slices_S128x1664_o0_1024_S128x128 rotates_S128x128_d1s1a0 rotates_S128x128_d1s1a0

/-- Second sub-block, chunk 8 as stored. -/
theorem sto1_8 : k0_pay119 cu cv ac k0_pay21 (k0_pay94 qs p) (k0_pay95 qs p) = chunk (scores ac cu cv b (k0_pay86 qs p)) 128 8 (by decide) (by decide) :=
  (shapeCast_self _ _).trans (raw1_8 cu cv ac qs p b)

/-- Second sub-block, chunk 9. -/
theorem raw1_9 : k0_pay121 cu cv ac k0_pay21 (k0_pay95 qs p) (k0_pay96 qs p) = chunk (scores ac cu cv b (k0_pay86 qs p)) 128 9 (by decide) (by decide) :=
  chunk1_eq 9 (by decide) ac cu cv b (k0_pay86 qs p) slices_S256x1536_o128_1152_S128x128 slices_S256x128_o128_0_S128x128 slices_S256x128_o128_0_S128x128
    slices_S128x1664_o0_1280_S128x128 slices_S128x1664_o0_1152_S128x128 rotates_S128x128_d1s1a0 rotates_S128x128_d1s1a0

/-- Second sub-block, chunk 9 as stored. -/
theorem sto1_9 : k0_pay122 cu cv ac k0_pay21 (k0_pay95 qs p) (k0_pay96 qs p) = chunk (scores ac cu cv b (k0_pay86 qs p)) 128 9 (by decide) (by decide) :=
  (shapeCast_self _ _).trans (raw1_9 cu cv ac qs p b)

/-- Second sub-block, chunk 10. -/
theorem raw1_10 : k0_pay123 cu cv ac k0_pay21 (k0_pay96 qs p) (k0_pay97 qs p) = chunk (scores ac cu cv b (k0_pay86 qs p)) 128 10 (by decide) (by decide) :=
  chunk1_eq 10 (by decide) ac cu cv b (k0_pay86 qs p) slices_S256x1536_o128_1280_S128x128 slices_S256x128_o128_0_S128x128 slices_S256x128_o128_0_S128x128
    slices_S128x1664_o0_1408_S128x128 slices_S128x1664_o0_1280_S128x128 rotates_S128x128_d1s1a0 rotates_S128x128_d1s1a0

/-- Second sub-block, chunk 10 as stored. -/
theorem sto1_10 : k0_pay124 cu cv ac k0_pay21 (k0_pay96 qs p) (k0_pay97 qs p) = chunk (scores ac cu cv b (k0_pay86 qs p)) 128 10 (by decide) (by decide) :=
  (shapeCast_self _ _).trans (raw1_10 cu cv ac qs p b)

/-- Second sub-block, chunk 11. -/
theorem raw1_11 : k0_pay125 cu cv ac k0_pay21 (k0_pay97 qs p) (k0_pay98 qs p) = chunk (scores ac cu cv b (k0_pay86 qs p)) 128 11 (by decide) (by decide) :=
  chunk1_eq 11 (by decide) ac cu cv b (k0_pay86 qs p) slices_S256x1536_o128_1408_S128x128 slices_S256x128_o128_0_S128x128 slices_S256x128_o128_0_S128x128
    slices_S128x1664_o0_1536_S128x128 slices_S128x1664_o0_1408_S128x128 rotates_S128x128_d1s1a0 rotates_S128x128_d1s1a0

/-- Second sub-block, chunk 11 as stored. -/
theorem sto1_11 : k0_pay126 cu cv ac k0_pay21 (k0_pay97 qs p) (k0_pay98 qs p) = chunk (scores ac cu cv b (k0_pay86 qs p)) 128 11 (by decide) (by decide) :=
  (shapeCast_self _ _).trans (raw1_11 cu cv ac qs p b)

end pays

/-- The second pass of the first sub-block, from the chunks as they are read back. -/
theorem pay84_eq (G : Fin 256 → Fin 1536 → EReal) (V : FVec Ideal S1x1x1536x64 .fp8e4m3) (vs : Ideal .f32)
    {M v0 v1 v2 v3 v4 v5 v6 v7 v8 v9 v10 v11 : FVec Ideal S128x128 .f32} (hM : M = maxB G 0 (by decide))
    (h0 : v0 = chunk G 0 0 (by decide) (by decide)) (h1 : v1 = chunk G 0 1 (by decide) (by decide)) (h2 : v2 = chunk G 0 2 (by decide) (by decide)) (h3 : v3 = chunk G 0 3 (by decide) (by decide)) (h4 : v4 = chunk G 0 4 (by decide) (by decide)) (h5 : v5 = chunk G 0 5 (by decide) (by decide)) (h6 : v6 = chunk G 0 6 (by decide) (by decide)) (h7 : v7 = chunk G 0 7 (by decide) (by decide)) (h8 : v8 = chunk G 0 8 (by decide) (by decide)) (h9 : v9 = chunk G 0 9 (by decide) (by decide)) (h10 : v10 = chunk G 0 10 (by decide) (by decide)) (h11 : v11 = chunk G 0 11 (by decide) (by decide)) :
    k0_pay84 M (k0_pay67 M v0) (k0_pay69 M v1) (k0_pay71 M v2) (k0_pay73 M v3) (k0_pay75 M v4) (k0_pay77 M v5) (k0_pay79 M v6) (k0_pay81 M v7) (k0_pay82 M v8) (k0_pay83 M v0 v1 v2 v3 v4 v5 v6 v7 v8) v9 v10 v11 V vs
      = fun w => attend G V vs ⟨0 + (w 2).1, by have : (w 2).1 < 128 := (w 2).isLt; omega⟩ (w 3) := by
  subst hM h0 h1 h2 h3 h4 h5 h6 h7 h8 h9 h10 h11
  exact attend_of G 0 (by decide) V vs _ _
    (concat_chunks (expo G) 0 (by decide) rfl rfl rfl rfl rfl rfl rfl rfl rfl rfl rfl rfl concatenates_S128x128_S128x128_S128x128_S128x128_S128x128_S128x128_S128x128_S128x128_S128x128_S128x128_S128x128_S128x128_S128x1536_d1)
    (funext fun y => add12 fun c => chunk (expo G) 0 c.1 (by decide) c.2 y)

/-- The second pass of the second sub-block: the exponentials of chunks 0 to 3 and the sum of the first three
    are formed earlier. -/
theorem pay1_eq (G : Fin 256 → Fin 1536 → EReal) (V : FVec Ideal S1x1x1536x64 .fp8e4m3) (vs : Ideal .f32)
    {M e3 s v4 v5 v6 v7 v8 v9 v10 v11 : FVec Ideal S128x128 .f32} {e0 e1 e2 : FVec Ideal S128x128 .bf16} (hM : M = maxB G 128 (by decide))
    (g0 : e0 = chunk (expo G) 128 0 (by decide) (by decide)) (g1 : e1 = chunk (expo G) 128 1 (by decide) (by decide))
    (g2 : e2 = chunk (expo G) 128 2 (by decide) (by decide)) (g3 : e3 = chunk (expo G) 128 3 (by decide) (by decide))
    (gs : s = fun y => chunk (expo G) 128 0 (by decide) (by decide) y + chunk (expo G) 128 1 (by decide) (by decide) y
      + chunk (expo G) 128 2 (by decide) (by decide) y)
    (h4 : v4 = chunk G 128 4 (by decide) (by decide)) (h5 : v5 = chunk G 128 5 (by decide) (by decide)) (h6 : v6 = chunk G 128 6 (by decide) (by decide)) (h7 : v7 = chunk G 128 7 (by decide) (by decide)) (h8 : v8 = chunk G 128 8 (by decide) (by decide)) (h9 : v9 = chunk G 128 9 (by decide) (by decide)) (h10 : v10 = chunk G 128 10 (by decide) (by decide)) (h11 : v11 = chunk G 128 11 (by decide) (by decide)) :
    k0_pay1 (k0_pay144 M s e3 v4 v5 v6 v7 v8 v9 v10 v11) (k0_pay145 M e0 e1 e2 e3 v4 v5 v6 v7 v8 v9 v10 v11) V vs
      = fun w => attend G V vs ⟨128 + (w 2).1, by have : (w 2).1 < 128 := (w 2).isLt; omega⟩ (w 3) := by
  subst hM g0 g1 g2 g3 gs h4 h5 h6 h7 h8 h9 h10 h11
  exact attend_of G 128 (by decide) V vs _ _
    (concat_chunks (expo G) 128 (by decide) rfl rfl rfl rfl rfl rfl rfl rfl rfl rfl rfl rfl concatenates_S128x128_S128x128_S128x128_S128x128_S128x128_S128x128_S128x128_S128x128_S128x128_S128x128_S128x128_S128x128_S128x1536_d1)
    (funext fun y => add12 fun c => chunk (expo G) 128 c.1 (by decide) c.2 y)

/-! ## The chunks in memory -/

/-- A score table as the contents of the scratch array. -/
def tab (G : Fin 256 → Fin 1536 → EReal) : S256x1536.Idx → Elt Ideal .f32 := fun y => G (y 0) (y 1)

/-- A stored chunk agrees with the table at every element it covers. -/
theorem piece_tab (G : Fin 256 → Fin 1536 → EReal) (o c : Nat) (ho : o + 128 ≤ 256) (hc : c < 12)
    (inb : ∀ a, (![o, 128 * c] : Fin 2 → Nat) a + S128x128.size a ≤ S256x1536.size a)
    {w : Vec Ideal S128x128 .f32} (hw : w = chunk G o c ho hc)
    (y : (Rect.unit (s := S256x1536) ![o, 128 * c] S128x128.size inb).shape.Idx) :
    w y = tab G ((Rect.unit (s := S256x1536) ![o, 128 * c] S128x128.size inb).emb y) := by
  subst hw
  unfold chunk tab
  refine congrArg₂ G (Fin.ext ?_) (Fin.ext ?_)
  · show o + (y 0).1 = o + 1 * (y 0).1
    omega
  · show 128 * c + (y 1).1 = 128 * c + 1 * (y 1).1
    omega

/-- A chunk read back from stores that all agree with the table, one of which is this chunk's. -/
theorem readCov_chunk (v : View sig .tc .vmem S256x1536 .f32) (G : Fin 256 → Fin 1536 → EReal) (o c : Nat) (ho : o + 128 ≤ 256) (hc : c < 12)
    (inb : ∀ a, (![o, 128 * c] : Fin 2 → Nat) a + S128x128.size a ≤ S256x1536.size a)
    (L : List (View.Piece (Elt Ideal) S256x1536 .f32)) (hG : ∀ q ∈ L, ∀ y : q.1.shape.Idx, q.2 y = tab G (q.1.emb y))
    (hm : Rect.unit (s := S256x1536) ![o, 128 * c] S128x128.size inb ∈ L.map (·.1)) :
    v.readCov L (Rect.unit (s := S256x1536) ![o, 128 * c] S128x128.size inb).toLoadRect = chunk G o c ho hc := by
  rw [View.readCov_eq_canon']
  funext x
  obtain ⟨q, hq, he⟩ := List.mem_map.mp hm
  have hy : ∃ q ∈ L, (Rect.unit (s := S256x1536) ![o, 128 * c] S128x128.size inb).idx x ∈ q.1.set :=
    ⟨q, hq, by
      rw [he, Rect.mem_set_unit]
      intro a
      have h1 : ((Rect.unit (s := S256x1536) ![o, 128 * c] S128x128.size inb).idx x a : Nat) = (![o, 128 * c] : Fin 2 → Nat) a + 1 * (x a).1 := rfl
      have h2 : (x a).1 < S128x128.size a := (x a).isLt
      change _ ≤ ((Rect.unit (s := S256x1536) ![o, 128 * c] S128x128.size inb).idx x a : Nat) ∧ _
      constructor <;> omega⟩
  refine (View.canon_apply_of_pieces (tab G) L hG _ hy).trans ?_
  unfold chunk tab
  refine congrArg₂ G (Fin.ext ?_) (Fin.ext ?_)
  · show o + 1 * (x 0).1 = o + (x 0).1
    omega
  · show 128 * c + 1 * (x 1).1 = 128 * c + (x 1).1
    omega

end Cert.Proof.Kern

end
-- ==== Proof.Attention.lean ====
/- One grid point of the kernel: the chunks of scores it keeps in memory are read back as written, and its first
   output block is the attention of its 256 query rows. -/
module

public import proofs.«01_k».proof.Proof.ChunkPays
public import proofs.«01_k».proof.Proof.Gen.KernelIdeal.Frame

@[expose] public section

set_option maxRecDepth 16384

noncomputable section

namespace Cert.Proof.Kern

open Idealize.ShloMosaic Cert.KernelIdeal Cert.KernelIdeal.Gen

section point

variable (c : Dev nD) (i : grid0.Coords) (arg3 : Memref sig .tc .vmem S1x1x256x64 .bf16) (harg3 : arg3.IsWhole) (arg4 : Memref sig .tc .vmem S1x1x1536x64 .fp8e4m3) (harg4 : arg4.IsWhole) (arg5 : Memref sig .tc .vmem S1x1x1536x64 .fp8e4m3) (harg5 : arg5.IsWhole) (arg6 : Memref sig .tc .vmem S1x3072x64 .fp8e4m3) (harg6 : arg6.IsWhole) (arg7 : Memref sig .tc .vmem S1x1x64 .f32) (harg7 : arg7.IsWhole) (arg8 : Memref sig .tc .vmem S1x1x64 .f32) (harg8 : arg8.IsWhole) (arg9 : Memref sig .tc .smem S16x4 .f32) (harg9 : arg9.IsWhole) (arg10 : Memref sig .tc .smem S16x4 .f32) (harg10 : arg10.IsWhole) (arg11 : Memref sig .tc .smem S1x4 .f32) (harg11 : arg11.IsWhole) (arg12 : Memref sig .tc .vmem S1x1x256x64 .bf16) (harg12 : arg12.IsWhole) (arg13 : Memref sig .tc .vmem S1x1x256x64 .fp8e4m3) (harg13 : arg13.IsWhole) (arg14 : Memref sig .tc .vmem S1x1x256x1 .f32) (harg14 : arg14.IsWhole) (arg15 : Memref sig .tc .vmem S1x1x256x64 .fp8e4m3) (harg15 : arg15.IsWhole) (arg16 : Memref sig .tc .vmem S1x1x256x1 .f32) (harg16 : arg16.IsWhole) (arg17 : Memref sig .tc .vmem S256x1536 .f32) (harg17 : arg17.IsWhole)
    (x0 : Vec Ideal S1x1x256x64 .bf16) (x1 : Vec Ideal S1x1x1536x64 .fp8e4m3) (x2 : Vec Ideal S1x1x1536x64 .fp8e4m3) (x3 : Vec Ideal S1x3072x64 .fp8e4m3) (x4 : Vec Ideal S1x1x64 .f32) (x5 : Vec Ideal S1x1x64 .f32) (x6 : Vec Ideal S16x4 .f32) (x7 : Vec Ideal S16x4 .f32) (x8 : Vec Ideal S1x4 .f32)

/-- The 1664 rows of relative positions the first sub-block reads. -/
def pos0 : Vec Ideal S1x1664x64 .fp8e4m3 := (View.readAt (Elt Ideal) arg6.view (Rect.unit (s := S1x3072x64) (k0_off3 i 128#32) S1x1664x64.size (k0_off3_inb i 0)).toLoadRect (harg6.unread x3))

/-- The 1664 rows of relative positions the second sub-block reads. -/
def pos1 : Vec Ideal S1x1664x64 .fp8e4m3 := (View.readAt (Elt Ideal) arg6.view (Rect.unit (s := S1x3072x64) (k0_off3 i 256#32) S1x1664x64.size (k0_off3_inb i 1)).toLoadRect (harg6.unread x3))

/-- The position products of the first sub-block. -/
def bd0 : S128x1664.Idx → EReal := k0_pay22 (kernelRun0_A.sl.r_10 c arg3 harg3 arg8 harg8 x0 x5) (pos0 i arg6 harg6 x3)

/-- The position products of the second sub-block. -/
def bd1 : S128x1664.Idx → EReal := k0_pay86 (k0_pay85 (kernelRun0_A.sl.r_10 c arg3 harg3 arg8 harg8 x0 x5)) (pos1 i arg6 harg6 x3)

/-- The scores of the grid point. -/
def table : Fin 256 → Fin 1536 → EReal :=
  scores (kernelRun0_A.sl.r_14 c arg3 harg3 arg4 harg4 arg7 harg7 x0 x1 x4) (kernelRun0_A.sl.r_11 c i arg3 harg3 arg7 harg7 arg9 harg9 x0 x4 x6) (kernelRun0_A.sl.r_13 c i arg3 harg3 arg8 harg8 arg11 harg11 x0 x5 x8) (bd0 c i arg3 harg3 arg6 harg6 arg8 harg8 x0 x3 x5) (bd1 c i arg3 harg3 arg6 harg6 arg8 harg8 x0 x3 x5)

/-- Every chunk of the first sub-block is stored as its block of the table. -/
theorem hs12 : ∀ q ∈ (kernelRun0_A.sl.HS0_12 c i arg3 harg3 arg4 harg4 arg6 harg6 arg7 harg7 arg8 harg8 arg9 harg9 arg11 harg11 x0 x1 x3 x4 x5 x6 x8), ∀ y : q.1.shape.Idx, q.2 y = tab (table c i arg3 harg3 arg4 harg4 arg6 harg6 arg7 harg7 arg8 harg8 arg9 harg9 arg11 harg11 x0 x1 x3 x4 x5 x6 x8) (q.1.emb y) := by
  unfold kernelRun0_A.sl.HS0_12
  simp only [List.forall_mem_cons]
  exact ⟨piece_tab (table c i arg3 harg3 arg4 harg4 arg6 harg6 arg7 harg7 arg8 harg8 arg9 harg9 arg11 harg11 x0 x1 x3 x4 x5 x6 x8) 0 11 (by decide) (by decide) inb_S256x1536_S128x128_0_1408 (sto0_11 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 10 (by decide) (by decide) inb_S256x1536_S128x128_0_1280 (sto0_10 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 9 (by decide) (by decide) inb_S256x1536_S128x128_0_1152 (sto0_9 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 8 (by decide) (by decide) inb_S256x1536_S128x128_0_1024 (sto0_8 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 7 (by decide) (by decide) inb_S256x1536_S128x128_0_896 (sto0_7 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 6 (by decide) (by decide) inb_S256x1536_S128x128_0_768 (sto0_6 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 5 (by decide) (by decide) inb_S256x1536_S128x128_0_640 (sto0_5 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 4 (by decide) (by decide) inb_S256x1536_S128x128_0_512 (sto0_4 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 3 (by decide) (by decide) inb_S256x1536_S128x128_0_384 (sto0_3 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 2 (by decide) (by decide) inb_S256x1536_S128x128_0_256 (sto0_2 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 1 (by decide) (by decide) inb_S256x1536_S128x128_0_128 (sto0_1 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), piece_tab (table c i arg3 harg3 arg4 harg4 arg6 harg6 arg7 harg7 arg8 harg8 arg9 harg9 arg11 harg11 x0 x1 x3 x4 x5 x6 x8) 0 0 (by decide) (by decide) inb_S256x1536_S128x128_0_0 (sto0_0 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)), fun q hq => absurd hq (List.not_mem_nil)⟩

/-- Every chunk of both sub-blocks is stored as its block of the table. -/
theorem hs24 : ∀ q ∈ (kernelRun0_A.sl.HS0_24 c i arg3 harg3 arg4 harg4 arg6 harg6 arg7 harg7 arg8 harg8 arg9 harg9 arg11 harg11 x0 x1 x3 x4 x5 x6 x8), ∀ y : q.1.shape.Idx, q.2 y = tab (table c i arg3 harg3 arg4 harg4 arg6 harg6 arg7 harg7 arg8 harg8 arg9 harg9 arg11 harg11 x0 x1 x3 x4 x5 x6 x8) (q.1.emb y) := by
  unfold kernelRun0_A.sl.HS0_24
  simp only [List.forall_mem_cons]
  exact ⟨piece_tab (table c i arg3 harg3 arg4 harg4 arg6 harg6 arg7 harg7 arg8 harg8 arg9 harg9 arg11 harg11 x0 x1 x3 x4 x5 x6 x8) 128 11 (by decide) (by decide) inb_S256x1536_S128x128_128_1408 (sto1_11 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 10 (by decide) (by decide) inb_S256x1536_S128x128_128_1280 (sto1_10 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 9 (by decide) (by decide) inb_S256x1536_S128x128_128_1152 (sto1_9 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 8 (by decide) (by decide) inb_S256x1536_S128x128_128_1024 (sto1_8 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 7 (by decide) (by decide) inb_S256x1536_S128x128_128_896 (sto1_7 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 6 (by decide) (by decide) inb_S256x1536_S128x128_128_768 (sto1_6 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 5 (by decide) (by decide) inb_S256x1536_S128x128_128_640 (sto1_5 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 4 (by decide) (by decide) inb_S256x1536_S128x128_128_512 (sto1_4 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 3 (by decide) (by decide) inb_S256x1536_S128x128_128_384 (sto1_3 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 2 (by decide) (by decide) inb_S256x1536_S128x128_128_256 (sto1_2 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 1 (by decide) (by decide) inb_S256x1536_S128x128_128_128 (sto1_1 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), piece_tab (table c i arg3 harg3 arg4 harg4 arg6 harg6 arg7 harg7 arg8 harg8 arg9 harg9 arg11 harg11 x0 x1 x3 x4 x5 x6 x8) 128 0 (by decide) (by decide) inb_S256x1536_S128x128_128_0 (sto1_0 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)), hs12 c i arg3 harg3 arg4 harg4 arg6 harg6 arg7 harg7 arg8 harg8 arg9 harg9 arg11 harg11 x0 x1 x3 x4 x5 x6 x8⟩

theorem v294_eq : (kernelRun0_A.sl.v294 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 0 (by decide) (by decide) :=
  readCov_chunk arg17.view (table c i arg3 harg3 arg4 harg4 arg6 harg6 arg7 harg7 arg8 harg8 arg9 harg9 arg11 harg11 x0 x1 x3 x4 x5 x6 x8) 0 0 (by decide) (by decide) inb_S256x1536_S128x128_0_0 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v298_eq : (kernelRun0_A.sl.v298 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 1 (by decide) (by decide) :=
  readCov_chunk arg17.view (table c i arg3 harg3 arg4 harg4 arg6 harg6 arg7 harg7 arg8 harg8 arg9 harg9 arg11 harg11 x0 x1 x3 x4 x5 x6 x8) 0 1 (by decide) (by decide) inb_S256x1536_S128x128_0_128 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v303_eq : (kernelRun0_A.sl.v303 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 2 (by decide) (by decide) :=
  readCov_chunk arg17.view (table c i arg3 harg3 arg4 harg4 arg6 harg6 arg7 harg7 arg8 harg8 arg9 harg9 arg11 harg11 x0 x1 x3 x4 x5 x6 x8) 0 2 (by decide) (by decide) inb_S256x1536_S128x128_0_256 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v308_eq : (kernelRun0_A.sl.v308 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 3 (by decide) (by decide) :=
  readCov_chunk arg17.view (table c i arg3 harg3 arg4 harg4 arg6 harg6 arg7 harg7 arg8 harg8 arg9 harg9 arg11 harg11 x0 x1 x3 x4 x5 x6 x8) 0 3 (by decide) (by decide) inb_S256x1536_S128x128_0_384 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v313_eq : (kernelRun0_A.sl.v313 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 4 (by decide) (by decide) :=
  readCov_chunk arg17.view (table c i arg3 harg3 arg4 harg4 arg6 harg6 arg7 harg7 arg8 harg8 arg9 harg9 arg11 harg11 x0 x1 x3 x4 x5 x6 x8) 0 4 (by decide) (by decide) inb_S256x1536_S128x128_0_512 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v318_eq : (kernelRun0_A.sl.v318 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 5 (by decide) (by decide) :=
  readCov_chunk arg17.view (table c i arg3 harg3 arg4 harg4 arg6 harg6 arg7 harg7 arg8 harg8 arg9 harg9 arg11 harg11 x0 x1 x3 x4 x5 x6 x8) 0 5 (by decide) (by decide) inb_S256x1536_S128x128_0_640 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v323_eq : (kernelRun0_A.sl.v323 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 6 (by decide) (by decide) :=
  readCov_chunk arg17.view (table c i arg3 harg3 arg4 harg4 arg6 harg6 arg7 harg7 arg8 harg8 arg9 harg9 arg11 harg11 x0 x1 x3 x4 x5 x6 x8) 0 6 (by decide) (by decide) inb_S256x1536_S128x128_0_768 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v328_eq : (kernelRun0_A.sl.v328 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 7 (by decide) (by decide) :=
  readCov_chunk arg17.view (table c i arg3 harg3 arg4 harg4 arg6 harg6 arg7 harg7 arg8 harg8 arg9 harg9 arg11 harg11 x0 x1 x3 x4 x5 x6 x8) 0 7 (by decide) (by decide) inb_S256x1536_S128x128_0_896 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v333_eq : (kernelRun0_A.sl.v333 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 8 (by decide) (by decide) :=
  readCov_chunk arg17.view (table c i arg3 harg3 arg4 harg4 arg6 harg6 arg7 harg7 arg8 harg8 arg9 harg9 arg11 harg11 x0 x1 x3 x4 x5 x6 x8) 0 8 (by decide) (by decide) inb_S256x1536_S128x128_0_1024 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v338_eq : (kernelRun0_A.sl.v338 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 9 (by decide) (by decide) :=
  readCov_chunk arg17.view (table c i arg3 harg3 arg4 harg4 arg6 harg6 arg7 harg7 arg8 harg8 arg9 harg9 arg11 harg11 x0 x1 x3 x4 x5 x6 x8) 0 9 (by decide) (by decide) inb_S256x1536_S128x128_0_1152 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v343_eq : (kernelRun0_A.sl.v343 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 10 (by decide) (by decide) :=
  readCov_chunk arg17.view (table c i arg3 harg3 arg4 harg4 arg6 harg6 arg7 harg7 arg8 harg8 arg9 harg9 arg11 harg11 x0 x1 x3 x4 x5 x6 x8) 0 10 (by decide) (by decide) inb_S256x1536_S128x128_0_1280 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v348_eq : (kernelRun0_A.sl.v348 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 0 11 (by decide) (by decide) :=
  readCov_chunk arg17.view (table c i arg3 harg3 arg4 harg4 arg6 harg6 arg7 harg7 arg8 harg8 arg9 harg9 arg11 harg11 x0 x1 x3 x4 x5 x6 x8) 0 11 (by decide) (by decide) inb_S256x1536_S128x128_0_1408 (kernelRun0_A.sl.HS0_12 c i arg3 harg3 arg4 harg4 arg6 harg6 arg7 harg7 arg8 harg8 arg9 harg9 arg11 harg11 x0 x1 x3 x4 x5 x6 x8) (hs12 c i arg3 harg3 arg4 harg4 arg6 harg6 arg7 harg7 arg8 harg8 arg9 harg9 arg11 harg11 x0 x1 x3 x4 x5 x6 x8) (by
    unfold kernelRun0_A.sl.HS0_12
    simp only [List.map_cons, List.mem_cons, List.map_nil]
    simp only [true_or, or_true])

theorem v540_eq : (kernelRun0_A.sl.v540 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 0 (by decide) (by decide) :=
  readCov_chunk arg17.view (table c i arg3 harg3 arg4 harg4 arg6 harg6 arg7 harg7 arg8 harg8 arg9 harg9 arg11 harg11 x0 x1 x3 x4 x5 x6 x8) 128 0 (by decide) (by decide) inb_S256x1536_S128x128_128_0 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v544_eq : (kernelRun0_A.sl.v544 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 1 (by decide) (by decide) :=
  readCov_chunk arg17.view (table c i arg3 harg3 arg4 harg4 arg6 harg6 arg7 harg7 arg8 harg8 arg9 harg9 arg11 harg11 x0 x1 x3 x4 x5 x6 x8) 128 1 (by decide) (by decide) inb_S256x1536_S128x128_128_128 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v549_eq : (kernelRun0_A.sl.v549 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 2 (by decide) (by decide) :=
  readCov_chunk arg17.view (table c i arg3 harg3 arg4 harg4 arg6 harg6 arg7 harg7 arg8 harg8 arg9 harg9 arg11 harg11 x0 x1 x3 x4 x5 x6 x8) 128 2 (by decide) (by decide) inb_S256x1536_S128x128_128_256 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v554_eq : (kernelRun0_A.sl.v554 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 3 (by decide) (by decide) :=
  readCov_chunk arg17.view (table c i arg3 harg3 arg4 harg4 arg6 harg6 arg7 harg7 arg8 harg8 arg9 harg9 arg11 harg11 x0 x1 x3 x4 x5 x6 x8) 128 3 (by decide) (by decide) inb_S256x1536_S128x128_128_384 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v559_eq : (kernelRun0_A.sl.v559 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 4 (by decide) (by decide) :=
  readCov_chunk arg17.view (table c i arg3 harg3 arg4 harg4 arg6 harg6 arg7 harg7 arg8 harg8 arg9 harg9 arg11 harg11 x0 x1 x3 x4 x5 x6 x8) 128 4 (by decide) (by decide) inb_S256x1536_S128x128_128_512 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v564_eq : (kernelRun0_A.sl.v564 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 5 (by decide) (by decide) :=
  readCov_chunk arg17.view (table c i arg3 harg3 arg4 harg4 arg6 harg6 arg7 harg7 arg8 harg8 arg9 harg9 arg11 harg11 x0 x1 x3 x4 x5 x6 x8) 128 5 (by decide) (by decide) inb_S256x1536_S128x128_128_640 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v569_eq : (kernelRun0_A.sl.v569 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 6 (by decide) (by decide) :=
  readCov_chunk arg17.view (table c i arg3 harg3 arg4 harg4 arg6 harg6 arg7 harg7 arg8 harg8 arg9 harg9 arg11 harg11 x0 x1 x3 x4 x5 x6 x8) 128 6 (by decide) (by decide) inb_S256x1536_S128x128_128_768 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v574_eq : (kernelRun0_A.sl.v574 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 7 (by decide) (by decide) :=
  readCov_chunk arg17.view (table c i arg3 harg3 arg4 harg4 arg6 harg6 arg7 harg7 arg8 harg8 arg9 harg9 arg11 harg11 x0 x1 x3 x4 x5 x6 x8) 128 7 (by decide) (by decide) inb_S256x1536_S128x128_128_896 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v579_eq : (kernelRun0_A.sl.v579 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 8 (by decide) (by decide) :=
  readCov_chunk arg17.view (table c i arg3 harg3 arg4 harg4 arg6 harg6 arg7 harg7 arg8 harg8 arg9 harg9 arg11 harg11 x0 x1 x3 x4 x5 x6 x8) 128 8 (by decide) (by decide) inb_S256x1536_S128x128_128_1024 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v584_eq : (kernelRun0_A.sl.v584 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 9 (by decide) (by decide) :=
  readCov_chunk arg17.view (table c i arg3 harg3 arg4 harg4 arg6 harg6 arg7 harg7 arg8 harg8 arg9 harg9 arg11 harg11 x0 x1 x3 x4 x5 x6 x8) 128 9 (by decide) (by decide) inb_S256x1536_S128x128_128_1152 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v589_eq : (kernelRun0_A.sl.v589 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 10 (by decide) (by decide) :=
  readCov_chunk arg17.view (table c i arg3 harg3 arg4 harg4 arg6 harg6 arg7 harg7 arg8 harg8 arg9 harg9 arg11 harg11 x0 x1 x3 x4 x5 x6 x8) 128 10 (by decide) (by decide) inb_S256x1536_S128x128_128_1280 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

theorem v594_eq : (kernelRun0_A.sl.v594 c i arg3 harg3 arg4 harg4 arg6 harg6 arg7 harg7 arg8 harg8 arg9 harg9 arg11 harg11 arg17 x0 x1 x3 x4 x5 x6 x8) = chunk (table c i arg3 harg3 arg4 harg4 arg6 harg6 arg7 harg7 arg8 harg8 arg9 harg9 arg11 harg11 x0 x1 x3 x4 x5 x6 x8) 128 11 (by decide) (by decide) :=
  readCov_chunk arg17.view (table c i arg3 harg3 arg4 harg4 arg6 harg6 arg7 harg7 arg8 harg8 arg9 harg9 arg11 harg11 x0 x1 x3 x4 x5 x6 x8) 128 11 (by decide) (by decide) inb_S256x1536_S128x128_128_1408 (kernelRun0_A.sl.HS0_24 c i arg3 harg3 arg4 harg4 arg6 harg6 arg7 harg7 arg8 harg8 arg9 harg9 arg11 harg11 x0 x1 x3 x4 x5 x6 x8) (hs24 c i arg3 harg3 arg4 harg4 arg6 harg6 arg7 harg7 arg8 harg8 arg9 harg9 arg11 harg11 x0 x1 x3 x4 x5 x6 x8) (by
    unfold kernelRun0_A.sl.HS0_24
    simp only [List.map_cons, List.mem_cons]
    simp only [true_or, or_true])

/-- The row maxima of the first sub-block. -/
theorem r36_eq : (kernelRun0_A.sl.r_36 c i arg3 harg3 arg4 harg4 arg6 harg6 arg7 harg7 arg8 harg8 arg9 harg9 arg11 harg11 x0 x1 x3 x4 x5 x6 x8) = maxB (table c i arg3 harg3 arg4 harg4 arg6 harg6 arg7 harg7 arg8 harg8 arg9 harg9 arg11 harg11 x0 x1 x3 x4 x5 x6 x8) 0 (by decide) :=
  maxB_of (table c i arg3 harg3 arg4 harg4 arg6 harg6 arg7 harg7 arg8 harg8 arg9 harg9 arg11 harg11 x0 x1 x3 x4 x5 x6 x8) 0 (by decide) (raw0_0 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_1 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_2 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_3 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_4 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_5 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_6 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_7 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_8 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_9 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_10 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5)) (raw0_11 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (kernelRun0_A.sl.r_10 c arg3 harg3 arg8 harg8 x0 x5) (pos0 i arg6 harg6 x3) (bd1 c i arg3 harg3 arg6 harg6 arg8 harg8 x0 x3 x5))

/-- The row maxima of the second sub-block. -/
theorem r68_eq : (kernelRun0_A.sl.r_68 c i arg3 harg3 arg4 harg4 arg6 harg6 arg7 harg7 arg8 harg8 arg9 harg9 arg11 harg11 x0 x1 x3 x4 x5 x6 x8) = maxB (table c i arg3 harg3 arg4 harg4 arg6 harg6 arg7 harg7 arg8 harg8 arg9 harg9 arg11 harg11 x0 x1 x3 x4 x5 x6 x8) 128 (by decide) :=
  maxB_of (table c i arg3 harg3 arg4 harg4 arg6 harg6 arg7 harg7 arg8 harg8 arg9 harg9 arg11 harg11 x0 x1 x3 x4 x5 x6 x8) 128 (by decide) (raw1_0 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_1 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_2 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_3 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_4 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_5 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_6 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_7 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_8 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_9 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_10 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5)) (raw1_11 (kernelRun0_A.sl.r_11 c i arg3 harg3 arg7 harg7 arg9 harg9 x0 x4 x6) (kernelRun0_A.sl.r_13 c i arg3 harg3 arg8 harg8 arg11 harg11 x0 x5 x8) (kernelRun0_A.sl.r_14 c arg3 harg3 arg4 harg4 arg7 harg7 x0 x1 x4) (k0_pay85 (kernelRun0_A.sl.r_10 c arg3 harg3 arg8 harg8 x0 x5)) (pos1 i arg6 harg6 x3) (bd0 c i arg3 harg3 arg6 harg6 arg8 harg8 x0 x3 x5))

theorem r_69_eq : (kernelRun0_A.sl.r_69 c i arg3 harg3 arg4 harg4 arg6 harg6 arg7 harg7 arg8 harg8 arg9 harg9 arg11 harg11 arg17 x0 x1 x3 x4 x5 x6 x8) = chunk (expo (table c i arg3 harg3 arg4 harg4 arg6 harg6 arg7 harg7 arg8 harg8 arg9 harg9 arg11 harg11 x0 x1 x3 x4 x5 x6 x8)) 128 0 (by decide) (by decide) := by
  have h : (kernelRun0_A.sl.r_69 c i arg3 harg3 arg4 harg4 arg6 harg6 arg7 harg7 arg8 harg8 arg9 harg9 arg11 harg11 arg17 x0 x1 x3 x4 x5 x6 x8) = exp2 (subf (F := Ideal) (φ := .f32) (kernelRun0_A.sl.v540 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8)) := rfl
  rw [h, v540_eq, r68_eq]
  rfl

theorem r_70_eq : (kernelRun0_A.sl.r_70 c i arg3 harg3 arg4 harg4 arg6 harg6 arg7 harg7 arg8 harg8 arg9 harg9 arg11 harg11 arg17 x0 x1 x3 x4 x5 x6 x8) = chunk (expo (table c i arg3 harg3 arg4 harg4 arg6 harg6 arg7 harg7 arg8 harg8 arg9 harg9 arg11 harg11 x0 x1 x3 x4 x5 x6 x8)) 128 1 (by decide) (by decide) := by
  have h : (kernelRun0_A.sl.r_70 c i arg3 harg3 arg4 harg4 arg6 harg6 arg7 harg7 arg8 harg8 arg9 harg9 arg11 harg11 arg17 x0 x1 x3 x4 x5 x6 x8) = exp2 (subf (F := Ideal) (φ := .f32) (kernelRun0_A.sl.v544 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8)) := rfl
  rw [h, v544_eq, r68_eq]
  rfl

theorem r_72_eq : (kernelRun0_A.sl.r_72 c i arg3 harg3 arg4 harg4 arg6 harg6 arg7 harg7 arg8 harg8 arg9 harg9 arg11 harg11 arg17 x0 x1 x3 x4 x5 x6 x8) = chunk (expo (table c i arg3 harg3 arg4 harg4 arg6 harg6 arg7 harg7 arg8 harg8 arg9 harg9 arg11 harg11 x0 x1 x3 x4 x5 x6 x8)) 128 2 (by decide) (by decide) := by
  have h : (kernelRun0_A.sl.r_72 c i arg3 harg3 arg4 harg4 arg6 harg6 arg7 harg7 arg8 harg8 arg9 harg9 arg11 harg11 arg17 x0 x1 x3 x4 x5 x6 x8) = exp2 (subf (F := Ideal) (φ := .f32) (kernelRun0_A.sl.v549 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8)) := rfl
  rw [h, v549_eq, r68_eq]
  rfl

theorem r_73_eq : (kernelRun0_A.sl.r_73 c i arg3 harg3 arg4 harg4 arg6 harg6 arg7 harg7 arg8 harg8 arg9 harg9 arg11 harg11 arg17 x0 x1 x3 x4 x5 x6 x8) = chunk (expo (table c i arg3 harg3 arg4 harg4 arg6 harg6 arg7 harg7 arg8 harg8 arg9 harg9 arg11 harg11 x0 x1 x3 x4 x5 x6 x8)) 128 3 (by decide) (by decide) := by
  have h : (kernelRun0_A.sl.r_73 c i arg3 harg3 arg4 harg4 arg6 harg6 arg7 harg7 arg8 harg8 arg9 harg9 arg11 harg11 arg17 x0 x1 x3 x4 x5 x6 x8) = exp2 (subf (F := Ideal) (φ := .f32) (kernelRun0_A.sl.v554 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8)) := rfl
  rw [h, v554_eq, r68_eq]
  rfl

theorem r_71_eq : (kernelRun0_A.sl.r_71 c i arg3 harg3 arg4 harg4 arg6 harg6 arg7 harg7 arg8 harg8 arg9 harg9 arg11 harg11 arg17 x0 x1 x3 x4 x5 x6 x8) = fun y => chunk (expo (table c i arg3 harg3 arg4 harg4 arg6 harg6 arg7 harg7 arg8 harg8 arg9 harg9 arg11 harg11 x0 x1 x3 x4 x5 x6 x8)) 128 0 (by decide) (by decide) y + chunk (expo (table c i arg3 harg3 arg4 harg4 arg6 harg6 arg7 harg7 arg8 harg8 arg9 harg9 arg11 harg11 x0 x1 x3 x4 x5 x6 x8)) 128 1 (by decide) (by decide) y + chunk (expo (table c i arg3 harg3 arg4 harg4 arg6 harg6 arg7 harg7 arg8 harg8 arg9 harg9 arg11 harg11 x0 x1 x3 x4 x5 x6 x8)) 128 2 (by decide) (by decide) y := by
  have h : (kernelRun0_A.sl.r_71 c i arg3 harg3 arg4 harg4 arg6 harg6 arg7 harg7 arg8 harg8 arg9 harg9 arg11 harg11 arg17 x0 x1 x3 x4 x5 x6 x8) = addf (F := Ideal) (φ := .f32) (addf (exp2 (subf (kernelRun0_A.sl.v540 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8))) (exp2 (subf (kernelRun0_A.sl.v544 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8)))) (exp2 (subf (kernelRun0_A.sl.v549 c i arg3 harg3 arg4 harg4 arg6 harg6 arg7 harg7 arg8 harg8 arg9 harg9 arg11 harg11 arg17 x0 x1 x3 x4 x5 x6 x8) (kernelRun0_A.sl.r_68 c i arg3 harg3 arg4 harg4 arg6 harg6 arg7 harg7 arg8 harg8 arg9 harg9 arg11 harg11 x0 x1 x3 x4 x5 x6 x8))) := rfl
  rw [h, v540_eq, v544_eq, v549_eq, r68_eq]
  rfl

/-- The values the grid point reads. -/
def vals : Vec Ideal S1x1x1536x64 .fp8e4m3 := (View.readAt (Elt Ideal) arg5.view (Rect.unit (s := S1x1x1536x64) ![0, 0, 0, 0] S1x1x1536x64.size inb_S1x1x1536x64_S1x1x1536x64_0_0_0_0).toLoadRect (harg5.unread x2))

/-- The first output block: row `r` and column `d` hold the attention of query row `r`. -/
theorem out9_eq (w : S1x1x256x64.Idx) : out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 w = attend (table c i arg3 harg3 arg4 harg4 arg6 harg6 arg7 harg7 arg8 harg8 arg9 harg9 arg11 harg11 x0 x1 x3 x4 x5 x6 x8) (vals arg5 harg5 x2) (kernelRun0_A.sl.r_47 c i arg10 harg10 x7) (w 2) (w 3) := by
  have hcov := cover0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
  unfold out0_A_9
  rw [View.read_writes_eq_canon _ _ _ hcov]
  refine View.canon_apply_of_pieces (fun w : S1x1x256x64.Idx => attend (table c i arg3 harg3 arg4 harg4 arg6 harg6 arg7 harg7 arg8 harg8 arg9 harg9 arg11 harg11 x0 x1 x3 x4 x5 x6 x8) (vals arg5 harg5 x2) (kernelRun0_A.sl.r_47 c i arg10 harg10 x7) (w 2) (w 3)) _ ?_ w (hcov w)
  unfold kernelRun0_A
  dsimp only
  simp only [List.forall_mem_cons]
  refine ⟨fun y => ?_, fun y => ?_, fun q hq => absurd hq List.not_mem_nil⟩
  · have h := congrFun (pay1_eq (table c i arg3 harg3 arg4 harg4 arg6 harg6 arg7 harg7 arg8 harg8 arg9 harg9 arg11 harg11 x0 x1 x3 x4 x5 x6 x8) (vals arg5 harg5 x2) (kernelRun0_A.sl.r_47 c i arg10 harg10 x7) (r68_eq c i arg3 harg3 arg4 harg4 arg6 harg6 arg7 harg7 arg8 harg8 arg9 harg9 arg11 harg11 x0 x1 x3 x4 x5 x6 x8) (r_69_eq c i arg3 harg3 arg4 harg4 arg6 harg6 arg7 harg7 arg8 harg8 arg9 harg9 arg11 harg11 arg17 x0 x1 x3 x4 x5 x6 x8) (r_70_eq c i arg3 harg3 arg4 harg4 arg6 harg6 arg7 harg7 arg8 harg8 arg9 harg9 arg11 harg11 arg17 x0 x1 x3 x4 x5 x6 x8) (r_72_eq c i arg3 harg3 arg4 harg4 arg6 harg6 arg7 harg7 arg8 harg8 arg9 harg9 arg11 harg11 arg17 x0 x1 x3 x4 x5 x6 x8) (r_73_eq c i arg3 harg3 arg4 harg4 arg6 harg6 arg7 harg7 arg8 harg8 arg9 harg9 arg11 harg11 arg17 x0 x1 x3 x4 x5 x6 x8) (r_71_eq c i arg3 harg3 arg4 harg4 arg6 harg6 arg7 harg7 arg8 harg8 arg9 harg9 arg11 harg11 arg17 x0 x1 x3 x4 x5 x6 x8) (v559_eq c i arg3 harg3 arg4 harg4 arg6 harg6 arg7 harg7 arg8 harg8 arg9 harg9 arg11 harg11 arg17 x0 x1 x3 x4 x5 x6 x8) (v564_eq c i arg3 harg3 arg4 harg4 arg6 harg6 arg7 harg7 arg8 harg8 arg9 harg9 arg11 harg11 arg17 x0 x1 x3 x4 x5 x6 x8) (v569_eq c i arg3 harg3 arg4 harg4 arg6 harg6 arg7 harg7 arg8 harg8 arg9 harg9 arg11 harg11 arg17 x0 x1 x3 x4 x5 x6 x8) (v574_eq c i arg3 harg3 arg4 harg4 arg6 harg6 arg7 harg7 arg8 harg8 arg9 harg9 arg11 harg11 arg17 x0 x1 x3 x4 x5 x6 x8) (v579_eq c i arg3 harg3 arg4 harg4 arg6 harg6 arg7 harg7 arg8 harg8 arg9 harg9 arg11 harg11 arg17 x0 x1 x3 x4 x5 x6 x8) (v584_eq c i arg3 harg3 arg4 harg4 arg6 harg6 arg7 harg7 arg8 harg8 arg9 harg9 arg11 harg11 arg17 x0 x1 x3 x4 x5 x6 x8) (v589_eq c i arg3 harg3 arg4 harg4 arg6 harg6 arg7 harg7 arg8 harg8 arg9 harg9 arg11 harg11 arg17 x0 x1 x3 x4 x5 x6 x8) (v594_eq c i arg3 harg3 arg4 harg4 arg6 harg6 arg7 harg7 arg8 harg8 arg9 harg9 arg11 harg11 arg17 x0 x1 x3 x4 x5 x6 x8)) y
    refine h.trans ?_
    exact congrArg₂ (attend (table c i arg3 harg3 arg4 harg4 arg6 harg6 arg7 harg7 arg8 harg8 arg9 harg9 arg11 harg11 x0 x1 x3 x4 x5 x6 x8) (vals arg5 harg5 x2) (kernelRun0_A.sl.r_47 c i arg10 harg10 x7)) (Fin.ext (by show 128 + (y 2).1 = 128 + 1 * (y 2).1; omega)) (Fin.ext (by show (y 3).1 = 0 + 1 * (y 3).1; omega))
  · have h := congrFun (pay84_eq (table c i arg3 harg3 arg4 harg4 arg6 harg6 arg7 harg7 arg8 harg8 arg9 harg9 arg11 harg11 x0 x1 x3 x4 x5 x6 x8) (vals arg5 harg5 x2) (kernelRun0_A.sl.r_47 c i arg10 harg10 x7) (r36_eq c i arg3 harg3 arg4 harg4 arg6 harg6 arg7 harg7 arg8 harg8 arg9 harg9 arg11 harg11 x0 x1 x3 x4 x5 x6 x8) (v294_eq c i arg3 harg3 arg4 harg4 arg6 harg6 arg7 harg7 arg8 harg8 arg9 harg9 arg11 harg11 arg17 x0 x1 x3 x4 x5 x6 x8) (v298_eq c i arg3 harg3 arg4 harg4 arg6 harg6 arg7 harg7 arg8 harg8 arg9 harg9 arg11 harg11 arg17 x0 x1 x3 x4 x5 x6 x8) (v303_eq c i arg3 harg3 arg4 harg4 arg6 harg6 arg7 harg7 arg8 harg8 arg9 harg9 arg11 harg11 arg17 x0 x1 x3 x4 x5 x6 x8) (v308_eq c i arg3 harg3 arg4 harg4 arg6 harg6 arg7 harg7 arg8 harg8 arg9 harg9 arg11 harg11 arg17 x0 x1 x3 x4 x5 x6 x8) (v313_eq c i arg3 harg3 arg4 harg4 arg6 harg6 arg7 harg7 arg8 harg8 arg9 harg9 arg11 harg11 arg17 x0 x1 x3 x4 x5 x6 x8) (v318_eq c i arg3 harg3 arg4 harg4 arg6 harg6 arg7 harg7 arg8 harg8 arg9 harg9 arg11 harg11 arg17 x0 x1 x3 x4 x5 x6 x8) (v323_eq c i arg3 harg3 arg4 harg4 arg6 harg6 arg7 harg7 arg8 harg8 arg9 harg9 arg11 harg11 arg17 x0 x1 x3 x4 x5 x6 x8) (v328_eq c i arg3 harg3 arg4 harg4 arg6 harg6 arg7 harg7 arg8 harg8 arg9 harg9 arg11 harg11 arg17 x0 x1 x3 x4 x5 x6 x8) (v333_eq c i arg3 harg3 arg4 harg4 arg6 harg6 arg7 harg7 arg8 harg8 arg9 harg9 arg11 harg11 arg17 x0 x1 x3 x4 x5 x6 x8) (v338_eq c i arg3 harg3 arg4 harg4 arg6 harg6 arg7 harg7 arg8 harg8 arg9 harg9 arg11 harg11 arg17 x0 x1 x3 x4 x5 x6 x8) (v343_eq c i arg3 harg3 arg4 harg4 arg6 harg6 arg7 harg7 arg8 harg8 arg9 harg9 arg11 harg11 arg17 x0 x1 x3 x4 x5 x6 x8) (v348_eq c i arg3 harg3 arg4 harg4 arg6 harg6 arg7 harg7 arg8 harg8 arg9 harg9 arg11 harg11 arg17 x0 x1 x3 x4 x5 x6 x8)) y
    refine h.trans ?_
    exact congrArg₂ (attend (table c i arg3 harg3 arg4 harg4 arg6 harg6 arg7 harg7 arg8 harg8 arg9 harg9 arg11 harg11 x0 x1 x3 x4 x5 x6 x8) (vals arg5 harg5 x2) (kernelRun0_A.sl.r_47 c i arg10 harg10 x7)) (Fin.ext (by show 0 + (y 2).1 = 0 + 1 * (y 2).1; omega)) (Fin.ext (by show (y 3).1 = 0 + 1 * (y 3).1; omega))

end point

end Cert.Proof.Kern

end
-- ==== Proof.Quantiser.lean ====
/- The quantiser's power-of-two exponent, two ways: counted against the 255 powers of two as the kernel does, and by
   a logarithm as the reference does. -/
module

public import Idealize.ShloMosaic.Lib.IdealHost
public import Idealize.ShloMosaic.PureOps
public import Mathlib.Data.BitVec
public import Mathlib.Analysis.SpecialFunctions.Log.Basic
public import Mathlib.Order.Interval.Finset.Fin

@[expose] public section

noncomputable section

namespace Cert.Proof.Quant

open Idealize.ShloMosaic
open scoped BigOperators

/-- A power of two lies below `t` exactly when its exponent lies below the logarithm. -/
theorem le_log2_iff (t : ℝ) (hp : 0 < t) (z : ℤ) : ((z : ℝ) ≤ Real.log t / Real.log 2) ↔ (2 : ℝ) ^ z ≤ t := by
  rw [le_div_iff₀ (Real.log_pos (by norm_num)), ← Real.log_zpow, Real.log_le_log_iff (by positivity) hp]

/-- The exponent of the smallest power of two above a positive real, not below -126; zero for zero. -/
def qint (t : ℝ) : ℤ := if t = 0 then 0 else max (⌊Real.log t / Real.log 2⌋ + 1) (-126)

/-- A pattern of sign zero, exponent field `n` and significand zero is a power of two. -/
theorem ieee_field (b : BitVec 32) (n : Nat) (h1 : 1 ≤ n) (h2 : n ≤ 254) (hn : b.extractLsb' (8 + 23) 1 = 0#1)
    (hx : (b.extractLsb' 23 8).toNat = n) (hf : (b.extractLsb' 0 23).toNat = 0) :
    Ideal.ieee 8 23 b = (((2 : ℝ) ^ ((n : ℤ) - 127) : ℝ) : EReal) := by
  unfold Ideal.ieee
  have hb : ((0#1 : BitVec 1) == 1#1) = false := rfl
  have e : ((n : ℤ) - (2 ^ (8 - 1) - 1) - (23 : ℕ)) = ((n : ℤ) - 127) - 23 := by norm_num
  simp only [hn, hx, hf, hb, e]
  rw [if_neg (by omega), if_neg (by omega), if_neg (by decide), zpow_sub₀ (by norm_num : (2 : ℝ) ≠ 0)]
  congr 1
  push_cast
  generalize (2 : ℝ) ^ ((n : ℤ) - 127) = u
  norm_num
  ring

/-- A word with exponent field `n` and nothing else, read as a float, is a power of two. -/
theorem ofBits_field (n : Nat) (h1 : 1 ≤ n) (h2 : n ≤ 254) :
    Ideal.ofBits .f32 (IntOp.shli .vector (BitVec.ofNat 32 n) 23#32) = (((2 : ℝ) ^ ((n : ℤ) - 127) : ℝ) : EReal) := by
  have hs : IntOp.shli .vector (BitVec.ofNat 32 n) 23#32 = BitVec.ofNat 32 n <<< (23 : Nat) := by
    unfold IntOp.shli
    rw [if_pos (by decide)]
    rfl
  have ht : (BitVec.ofNat 32 n <<< (23 : Nat)).toNat = n * 8388608 := by
    rw [BitVec.toNat_shiftLeft, BitVec.toNat_ofNat, Nat.shiftLeft_eq]
    omega
  rw [hs]
  refine ieee_field _ n h1 h2 ?_ ?_ ?_
  · apply BitVec.eq_of_toNat_eq
    rw [BitVec.extractLsb'_toNat, ht, Nat.shiftRight_eq_div_pow]
    simp only [BitVec.toNat_ofNat]
    omega
  · rw [BitVec.extractLsb'_toNat, ht, Nat.shiftRight_eq_div_pow]
    omega
  · rw [BitVec.extractLsb'_toNat, ht, Nat.shiftRight_eq_div_pow]
    omega

/-- The word zero is the float zero. -/
theorem ofBits_field_zero : Ideal.ofBits .f32 (IntOp.shli .vector (BitVec.ofNat 32 0) 23#32) = 0 := by
  have hs : IntOp.shli .vector (BitVec.ofNat 32 0) 23#32 = 0#32 := by decide
  rw [hs]
  simp [Ideal.ofBits, Ideal.ieee]

/-- The word with every exponent bit set is plus infinity. -/
theorem ofBits_field_top : Ideal.ofBits .f32 (IntOp.shli .vector (BitVec.ofNat 32 255) 23#32) = ⊤ := by
  have hs : IntOp.shli .vector (BitVec.ofNat 32 255) 23#32 = 0x7F800000#32 := by decide
  rw [hs]
  simp [Ideal.ofBits, Ideal.ieee]

/-- The exponent word the kernel forms: how many of the powers of two do not exceed `t`. -/
def expWord (t : EReal) : BitVec 32 :=
  if t = 0 then 0#32 else
    IntOp.subi (IntOp.subi (Finset.fold IntOp.addi (0#32)
      (fun k : Fin 256 => BitVec.setWidth 32 (BitVec.ofBool
        (decide (Ideal.ofBits FTy.f32 (IntOp.shli ArithUnit.vector (BitVec.ofNat 32 k.1) 23#32) ≤ t)))) Finset.univ) 1#32) 126#32

theorem ofInt_cast (z : ℤ) : BitVec.ofInt 32 z = ((z : ℤ) : BitVec 32) := rfl

theorem ofNat_cast (n : ℕ) : BitVec.ofNat 32 n = ((n : ℕ) : BitVec 32) := rfl

theorem fold_count (N : Nat) (hN : N < 256) :
    Finset.fold IntOp.addi (0#32) (fun k : Fin 256 => if k.1 ≤ N then (1#32 : BitVec 32) else 0#32) Finset.univ = BitVec.ofNat 32 (N + 1) := by
  have h1 : Finset.fold IntOp.addi (0#32) (fun k : Fin 256 => if k.1 ≤ N then (1#32 : BitVec 32) else 0#32) Finset.univ
      = ∑ k : Fin 256, if k.1 ≤ N then (1 : BitVec 32) else 0 := rfl
  rw [h1, Finset.sum_boole]
  have h2 : (Finset.univ.filter fun k : Fin 256 => k.1 ≤ N) = Finset.Iic (⟨N, hN⟩ : Fin 256) := by
    ext k
    simp [Fin.le_def]
  rw [h2, Fin.card_Iic]
  rfl

theorem expWord_eq (t : ℝ) (h0 : 0 ≤ t) (h1 : t < 2 ^ 121) : expWord (t : EReal) = BitVec.ofInt 32 (qint t) := by
  unfold expWord qint
  by_cases ht : t = 0
  · rw [if_pos (by rw [ht]; rfl), if_pos ht]
    rfl
  · have hp : 0 < t := lt_of_le_of_ne h0 (Ne.symm ht)
    rw [if_neg (by exact_mod_cast ht), if_neg ht]
    set L := ⌊Real.log t / Real.log 2⌋ with hL
    have hLu : L ≤ 120 := by
      have := Int.floor_lt.mpr (not_le.mp (mt (le_log2_iff t hp 121).mp (not_le.mpr (by exact_mod_cast h1))))
      omega
    have hk : ∀ k : Fin 256, BitVec.setWidth 32 (BitVec.ofBool
        (decide (Ideal.ofBits FTy.f32 (IntOp.shli ArithUnit.vector (BitVec.ofNat 32 k.1) 23#32) ≤ (t : EReal))))
        = if k.1 ≤ (max (L + 127) 0).toNat then (1#32 : BitVec 32) else 0#32 := by
      intro k
      have key : (Ideal.ofBits FTy.f32 (IntOp.shli ArithUnit.vector (BitVec.ofNat 32 k.1) 23#32) ≤ (t : EReal))
          ↔ k.1 ≤ (max (L + 127) 0).toNat := by
        have hk := k.isLt
        rcases Nat.eq_zero_or_pos k.1 with h | h
        · rw [h, ofBits_field_zero]
          exact iff_of_true (by exact_mod_cast h0) (Nat.zero_le _)
        · rcases Nat.lt_or_ge k.1 255 with h' | h'
          · rw [ofBits_field k.1 h (by omega), EReal.coe_le_coe_iff]
            have e : ((2 : ℝ) ^ ((k.1 : ℤ) - 127) ≤ t) ↔ ((k.1 : ℤ) - 127 ≤ L) := by
              rw [hL, Int.le_floor, le_log2_iff t hp]
            rw [e]
            omega
          · have : k.1 = 255 := by omega
            rw [this, ofBits_field_top]
            refine iff_of_false ?_ (by omega)
            rw [top_le_iff]
            exact EReal.coe_ne_top t
      by_cases hc : k.1 ≤ (max (L + 127) 0).toNat
      · rw [if_pos hc, decide_eq_true (key.mpr hc)]; rfl
      · rw [if_neg hc, decide_eq_false (fun h => hc (key.mp h))]; rfl
    rw [funext hk, fold_count _ (by omega)]
    have hN : (((max (L + 127) 0).toNat : ℕ) : ℤ) - 126 = max (L + 1) (-126) := by omega
    rw [← hN]
    generalize (max (L + 127) 0).toNat = N
    show BitVec.ofNat 32 (N + 1) - 1#32 - 126#32 = BitVec.ofInt 32 ((N : ℤ) - 126)
    rw [ofInt_cast, ofNat_cast]
    push_cast
    show _ - ((1 : ℕ) : BitVec 32) - ((126 : ℕ) : BitVec 32) = _
    push_cast
    ring

/-- The word `127 + e`, shifted into the exponent field, is two to the `e`. -/
theorem scale_word (z : ℤ) (h1 : -126 ≤ z) (h2 : z ≤ 126) :
    Ideal.ofBits FTy.f32 (IntOp.shli ArithUnit.vector (IntOp.addi (127#32) (BitVec.ofInt 32 z)) 23#32) = (((2 : ℝ) ^ z : ℝ) : EReal) := by
  have e : IntOp.addi (127#32) (BitVec.ofInt 32 z) = BitVec.ofNat 32 (127 + z).toNat := by
    have h : (((127 + z).toNat : ℤ) : BitVec 32) = ((127 + z : ℤ) : BitVec 32) := by rw [Int.toNat_of_nonneg (by omega)]
    rw [ofInt_cast, ofNat_cast (Int.toNat _), ← Int.cast_natCast, h]
    push_cast
    rfl
  rw [e, ofBits_field _ (by omega) (by omega)]
  congr 2
  omega

/-- The word `127 - e`, shifted into the exponent field, is two to the `-e`. -/
theorem inv_word (z : ℤ) (h1 : -126 ≤ z) (h2 : z ≤ 126) :
    Ideal.ofBits FTy.f32 (IntOp.shli ArithUnit.vector (IntOp.subi (127#32) (BitVec.ofInt 32 z)) 23#32) = (((2 : ℝ) ^ (-z) : ℝ) : EReal) := by
  have e : IntOp.subi (127#32) (BitVec.ofInt 32 z) = BitVec.ofNat 32 (127 - z).toNat := by
    have h : (((127 - z).toNat : ℤ) : BitVec 32) = ((127 - z : ℤ) : BitVec 32) := by rw [Int.toNat_of_nonneg (by omega)]
    rw [ofInt_cast, ofNat_cast (Int.toNat _), ← Int.cast_natCast, h]
    push_cast
    rfl
  rw [e, ofBits_field _ (by omega) (by omega)]
  congr 2
  omega

/-- The reference's quotient of logarithms, rounded down, raised by one and bounded below. -/
theorem logExp_eq (t : ℝ) (hp : 0 < t) :
    max (Ideal.liftRound Int.floor (Ideal.div (Ideal.log (t : EReal)) (Ideal.log ((2 : ℝ) : EReal))) + ((1 : ℝ) : EReal)) (((-126 : ℝ)) : EReal)
      = ((qint t : ℝ) : EReal) := by
  have h1 : Ideal.log (t : EReal) = (Real.log t : EReal) := by
    show (if t ≤ 0 then ⊥ else (Real.log t : EReal)) = _
    rw [if_neg (not_le.mpr hp)]
  have h2 : Ideal.log ((2 : ℝ) : EReal) = (Real.log 2 : EReal) := by
    show (if (2 : ℝ) ≤ 0 then ⊥ else (Real.log 2 : EReal)) = _
    rw [if_neg (by norm_num)]
  have hl : Real.log 2 ≠ 0 := (Real.log_pos (by norm_num)).ne'
  have h3 : Ideal.div (Real.log t : EReal) (Real.log 2 : EReal) = ((Real.log t / Real.log 2 : ℝ) : EReal) := by
    unfold Ideal.div
    rw [if_neg (by exact_mod_cast hl), ← EReal.coe_inv, ← EReal.coe_mul, div_eq_mul_inv]
  rw [h1, h2, h3]
  show max (((⌊Real.log t / Real.log 2⌋ : ℝ) : EReal) + ((1 : ℝ) : EReal)) _ = _
  unfold qint
  rw [if_neg hp.ne', ← EReal.coe_add]
  have hm : Monotone (fun x : ℝ => (x : EReal)) := fun _ _ h => EReal.coe_le_coe_iff.mpr h
  rw [← hm.map_max]
  congr 1
  push_cast
  rfl

/-- Two to an integer power. -/
theorem pow_two (z : ℤ) : Ideal.pow ((2 : ℝ) : EReal) ((z : ℝ) : EReal) = (((2 : ℝ) ^ z : ℝ) : EReal) := by
  show ((Real.rpow 2 (z : ℝ) : ℝ) : EReal) = _
  congr 1
  exact Real.rpow_intCast 2 z

theorem qint_bounds (t : ℝ) (h0 : 0 ≤ t) (h1 : t < 2 ^ 121) : -126 ≤ qint t ∧ qint t ≤ 126 := by
  unfold qint
  by_cases ht : t = 0
  · rw [if_pos ht]; omega
  · have hp : 0 < t := lt_of_le_of_ne h0 (Ne.symm ht)
    rw [if_neg ht]
    have := Int.floor_lt.mpr (not_le.mp (mt (le_log2_iff t hp 121).mp (not_le.mpr (by exact_mod_cast h1))))
    omega

end Cert.Proof.Quant

end
-- ==== Proof.KernelRows.lean ====
/- What the kernel's quantiser computes for one row of biased queries, read at an index. -/
module

public import Idealize.ShloMosaic.Lib.Pointwise
public import proofs.«01_k».proof.Proof.Gen.KernelIdeal.Skeleton
public import proofs.«01_k».proof.Proof.Quantiser

@[expose] public section

noncomputable section

namespace Cert.Proof.Kern

open Idealize.ShloMosaic Idealize.ShloMosaic.Pointwise
open Cert.KernelIdeal Cert.KernelIdeal.Gen
open scoped BigOperators

/-- The greatest magnitude of a row, scaled so that the largest code is 448. -/
def level (x : Fin 64 → EReal) : EReal :=
  Finset.univ.fold max (Ideal.ofBits FTy.f32 4286578688#32) (fun d => (max (x d) (-(x d)))) * Ideal.ofBits FTy.f32 0x3B124925#32

/-- The power of two that the kernel divides a row by. -/
def rowScale (x : Fin 64 → EReal) : EReal :=
  Ideal.ofBits FTy.f32 (IntOp.shli ArithUnit.vector (IntOp.addi (127#32) (Quant.expWord (level x))) 23#32)

/-- Its inverse, formed in the same way from the negated exponent. -/
def rowInv (x : Fin 64 → EReal) : EReal :=
  Ideal.ofBits FTy.f32 (IntOp.shli ArithUnit.vector (IntOp.subi (127#32) (Quant.expWord (level x))) 23#32)

/-- The code of one entry of a row. -/
def rowCode (x : Fin 64 → EReal) (d : Fin 64) : EReal :=
  min (Ideal.ofBits FTy.f32 1138753536#32) (max (Ideal.ofBits FTy.f32 3286237184#32) (x d * rowInv x))

variable (Q : Vec Ideal S1x1x256x64 .bf16) (B : Vec Ideal S1x1x64 .f32)

/-- A row of queries plus the bias of its head. -/
def row (r : Fin 256) (d : Fin 64) : EReal := (show EReal from Q (ix4 0 0 r d)) + B (ix3 0 0 d)

/-- The row's exponent. -/
theorem pay4_at (r : Fin 256) : k0_pay4 (F := Ideal) Q B (ix2 r 0) = Quant.expWord (level (row Q B r)) := by
  pointwise [k0_pay4, k0_pay3, k0_pay2]
  rfl

theorem pay9_at (r : Fin 256) : k0_pay9 (F := Ideal) (k0_pay2 Q) B (ix2 r 0) = Quant.expWord (level (row Q B r)) := by
  pointwise [k0_pay9, k0_pay8, k0_pay2]
  rfl

/-- The row's scale. -/
theorem pay5_at (r : Fin 256) : k0_pay5 (F := Ideal) Q B (ix2 r 0) = rowScale (row Q B r) := by
  have h := pay4_at Q B r
  unfold k0_pay5
  pointwise
  rw [h]
  rfl

theorem pay10_at (r : Fin 256) : k0_pay10 (F := Ideal) (k0_pay2 Q) B (ix2 r 0) = rowScale (row Q B r) := by
  have h := pay9_at Q B r
  unfold k0_pay10
  pointwise
  rw [h]
  rfl

theorem pay6_at (r : Fin 256) : k0_pay6 (F := Ideal) Q B (ix2 r 0) = IntOp.subi (127#32) (Quant.expWord (level (row Q B r))) := by
  have h := pay4_at Q B r
  unfold k0_pay6
  pointwise
  rw [h]

theorem pay11_at (r : Fin 256) : k0_pay11 (F := Ideal) (k0_pay2 Q) B (ix2 r 0) = IntOp.subi (127#32) (Quant.expWord (level (row Q B r))) := by
  have h := pay9_at Q B r
  unfold k0_pay11
  pointwise
  rw [h]

/-- The row's codes. -/
theorem pay7_at (r : Fin 256) (d : Fin 64) :
    k0_pay7 (F := Ideal) (k0_pay3 Q B) (k0_pay6 Q B) 23#32 (ix2 r d) = rowCode (row Q B r) d := by
  have h := pay6_at Q B r
  unfold k0_pay7 k0_pay3 k0_pay2
  pointwise
  rw [h]
  rfl

theorem pay12_at (r : Fin 256) (d : Fin 64) :
    k0_pay12 (F := Ideal) (k0_pay8 (k0_pay2 Q) B) (k0_pay11 (k0_pay2 Q) B) 23#32 (ix2 r d) = rowCode (row Q B r) d := by
  have h := pay11_at Q B r
  unfold k0_pay12 k0_pay8
  unfold k0_pay2 at *
  pointwise
  rw [h]
  rfl

end Cert.Proof.Kern
end
-- ==== Proof.KernelBlocks.lean ====
/- One grid point of the kernel: its blocks of codes and scales, and its scores, at an index of the blocks it reads. -/
module

public import proofs.«01_k».proof.Proof.Attention
public import proofs.«01_k».proof.Proof.KernelRows
public import Idealize.ShloMosaic.Lib.Pipeline.ValueKit
public import Idealize.ShloMosaic.Lib.WholeRead

@[expose] public section

set_option maxRecDepth 16384

noncomputable section

namespace Cert.Proof.Kern

open Idealize.ShloMosaic Cert.KernelIdeal Cert.KernelIdeal.Gen
open scoped BigOperators

section point

variable (c : Dev nD) (i : grid0.Coords) (arg3 : Memref sig .tc .vmem S1x1x256x64 .bf16) (harg3 : arg3.IsWhole) (arg4 : Memref sig .tc .vmem S1x1x1536x64 .fp8e4m3) (harg4 : arg4.IsWhole) (arg5 : Memref sig .tc .vmem S1x1x1536x64 .fp8e4m3) (harg5 : arg5.IsWhole) (arg6 : Memref sig .tc .vmem S1x3072x64 .fp8e4m3) (harg6 : arg6.IsWhole) (arg7 : Memref sig .tc .vmem S1x1x64 .f32) (harg7 : arg7.IsWhole) (arg8 : Memref sig .tc .vmem S1x1x64 .f32) (harg8 : arg8.IsWhole) (arg9 : Memref sig .tc .smem S16x4 .f32) (harg9 : arg9.IsWhole) (arg10 : Memref sig .tc .smem S16x4 .f32) (harg10 : arg10.IsWhole) (arg11 : Memref sig .tc .smem S1x4 .f32) (harg11 : arg11.IsWhole) (arg12 : Memref sig .tc .vmem S1x1x256x64 .bf16) (harg12 : arg12.IsWhole) (arg13 : Memref sig .tc .vmem S1x1x256x64 .fp8e4m3) (harg13 : arg13.IsWhole) (arg14 : Memref sig .tc .vmem S1x1x256x1 .f32) (harg14 : arg14.IsWhole) (arg15 : Memref sig .tc .vmem S1x1x256x64 .fp8e4m3) (harg15 : arg15.IsWhole) (arg16 : Memref sig .tc .vmem S1x1x256x1 .f32) (harg16 : arg16.IsWhole) (arg17 : Memref sig .tc .vmem S256x1536 .f32) (harg17 : arg17.IsWhole)
    (x0 : Vec Ideal S1x1x256x64 .bf16) (x1 : Vec Ideal S1x1x1536x64 .fp8e4m3) (x2 : Vec Ideal S1x1x1536x64 .fp8e4m3) (x3 : Vec Ideal S1x3072x64 .fp8e4m3) (x4 : Vec Ideal S1x1x64 .f32) (x5 : Vec Ideal S1x1x64 .f32) (x6 : Vec Ideal S16x4 .f32) (x7 : Vec Ideal S16x4 .f32) (x8 : Vec Ideal S1x4 .f32)

/-- A load of a whole block reads the block. -/
theorem load_whole {s : Shape} {e : EltTy} {sp : Space} (m : Memref sig .tc sp s e) (hm : m.IsWhole) (off : Fin s.rank → Nat) (hz : off = fun _ => 0)
    (inb : ∀ a, off a + s.size a ≤ s.size a) (X : Vec Ideal s e) :
    View.readAt (Elt Ideal) m.view (Rect.unit (s := s) off s.size inb).toLoadRect (hm.unread X) = X := by
  rw [View.readAt_eq_ld, hm.read_unread]
  exact View.ld_unit_zero hz inb X

/-- The block of codes for the content scores. -/
theorem out10_at (r : Fin 256) (d : Fin 64) : out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix4 0 0 r d) = rowCode (row x0 x4 r) d := by
  frame_out
  refine Eq.trans ?_ (pay7_at x0 x4 r d)
  first | (pointwise [k0_pay13, k0_pay15, k0_pay16]; done) | (show k0_pay13 (F := Ideal) _ _ = _; pointwise [k0_pay13])

/-- The block of scales for the content scores. -/
theorem out11_at (r : Fin 256) : out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix4 0 0 r 0) = rowScale (row x0 x4 r) := by
  frame_out
  refine Eq.trans ?_ (pay5_at x0 x4 r)
  first | (pointwise [k0_pay13, k0_pay15, k0_pay16]; done) | (show k0_pay13 (F := Ideal) _ _ = _; pointwise [k0_pay13])

/-- The block of codes for the position scores. -/
theorem out12_at (r : Fin 256) (d : Fin 64) : out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix4 0 0 r d) = rowCode (row x0 x5 r) d := by
  frame_out
  refine Eq.trans ?_ (pay12_at x0 x5 r d)
  first | (pointwise [k0_pay13, k0_pay15, k0_pay16]; done) | (show k0_pay13 (F := Ideal) _ _ = _; pointwise [k0_pay13])

/-- The block of scales for the position scores. -/
theorem out13_at (r : Fin 256) : out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 (ix4 0 0 r 0) = rowScale (row x0 x5 r) := by
  frame_out
  refine Eq.trans ?_ (pay10_at x0 x5 r)
  first | (pointwise [k0_pay13, k0_pay15, k0_pay16]; done) | (show k0_pay13 (F := Ideal) _ _ = _; pointwise [k0_pay13])

/-- The key scale of the point's batch and head, as loaded. -/
theorem load_off1 (m : Memref sig .tc .smem S16x4 .f32) (hm : m.IsWhole) (X : Vec Ideal S16x4 .f32) (y) :
    View.readAt (Elt Ideal) m.view (Rect.unit (s := S16x4) (k0_off1 i) S1x1.size (k0_off1_inb i)).toLoadRect (hm.unread X) y = X (ix2 (i 0) (i 1)) := by
  rw [Memref.IsWhole.readAt_unread]
  congr 1
  have e := k0_off1_eq i
  have h0 : (y 0 : Fin 1).1 < 1 := (y 0 : Fin 1).2
  have h1 : (y 1 : Fin 1).1 < 1 := (y 1 : Fin 1).2
  funext a
  refine Fin.ext ?_
  refine (congrArg (fun z : Nat => z + 1 * (y a).1) (congrFun e a)).trans ?_
  match a with
  | ⟨0, _⟩ => show (i 0).1 + 1 * (y 0 : Fin 1).1 = (i 0).1; omega
  | ⟨1, _⟩ => show (i 1).1 + 1 * (y 1 : Fin 1).1 = (i 1).1; omega

/-- The position scale of the point's head, as loaded. -/
theorem load_off2 (m : Memref sig .tc .smem S1x4 .f32) (hm : m.IsWhole) (X : Vec Ideal S1x4 .f32) (y) :
    View.readAt (Elt Ideal) m.view (Rect.unit (s := S1x4) (k0_off2 i) S1x1.size (k0_off2_inb i)).toLoadRect (hm.unread X) y = X (ix2 (0 : Fin 1) (i 1)) := by
  rw [Memref.IsWhole.readAt_unread]
  congr 1
  have e := k0_off2_eq i
  have h0 : (y 0 : Fin 1).1 < 1 := (y 0 : Fin 1).2
  have h1 : (y 1 : Fin 1).1 < 1 := (y 1 : Fin 1).2
  funext a
  refine Fin.ext ?_
  refine (congrArg (fun z : Nat => z + 1 * (y a).1) (congrFun e a)).trans ?_
  match a with
  | ⟨0, _⟩ => show 0 + 1 * (y 0 : Fin 1).1 = 0; omega
  | ⟨1, _⟩ => show (i 1).1 + 1 * (y 1 : Fin 1).1 = (i 1).1; omega

/-- The factor that turns scores into exponents of two. -/
def scaleConst : EReal := Named.named (F := Ideal) κ "log2e_scale" (φ := .f32) 0x3E38AA3B#32

/-- The codes the position products are taken of. -/
theorem r10_at (r : Fin 256) (d : Fin 64) : kernelRun0_A.sl.r_10 c arg3 harg3 arg8 harg8 x0 x5 (ix2 r d) = rowCode (row x0 x5 r) d := by
  refine Eq.trans ?_ (pay12_at x0 x5 r d)
  sl_unfold_words
  rw [load_whole arg3 harg3 _ (by decide), load_whole arg8 harg8 _ (by decide)]

/-- The content products. -/
theorem r14_at (r : Fin 256) (j : Fin 1536) : kernelRun0_A.sl.r_14 c arg3 harg3 arg4 harg4 arg7 harg7 x0 x1 x4 (ix2 r j) = ∑ d : Fin 64, rowCode (row x0 x4 r) d * (show EReal from x1 (ix4 0 0 j d)) := by
  sl_unfold_words
  rw [load_whole arg3 harg3 _ (by decide), load_whole arg7 harg7 _ (by decide), load_whole arg4 harg4 _ (by decide)]
  unfold k0_pay20
  pointwise
  refine Finset.sum_congr rfl fun d _ => ?_
  rw [pay7_at]

/-- The scales of the content products. -/
theorem r11_at (r : Fin 256) (l : Fin 128) : kernelRun0_A.sl.r_11 c i arg3 harg3 arg7 harg7 arg9 harg9 x0 x4 x6 (ix2 r l)
    = rowScale (row x0 x4 r) * (show EReal from x6 (ix2 (i 0) (i 1))) * scaleConst := by
  sl_unfold_run_names
  rw [load_whole arg3 harg3 _ (by decide), load_whole arg7 harg7 _ (by decide)]
  rw [load_off1]
  unfold k0_pay17
  pointwise
  rw [pay5_at]
  rfl

/-- The scales of the position products. -/
theorem r13_at (r : Fin 256) (l : Fin 128) : kernelRun0_A.sl.r_13 c i arg3 harg3 arg8 harg8 arg11 harg11 x0 x5 x8 (ix2 r l)
    = rowScale (row x0 x5 r) * (show EReal from x8 (ix2 0 (i 1))) * scaleConst := by
  sl_unfold_run_names
  rw [load_whole arg3 harg3 _ (by decide), load_whole arg8 harg8 _ (by decide)]
  rw [load_off2]
  unfold k0_pay19 k0_pay18
  pointwise
  rw [pay10_at]
  rfl

theorem r47_eq : kernelRun0_A.sl.r_47 c i arg10 harg10 x7 = x7 (ix2 (i 0) (i 1)) := by
  sl_unfold_run_names
  rw [load_off1]

theorem pos0_at (n : Fin 1664) (d : Fin 64) (k : Fin 3072) (hk : k.1 = 1408 - 256 * (i 2).1 + n.1) : pos0 i arg6 harg6 x3 (ix3 0 n d) = x3 (ix3 0 k d) := by
  unfold pos0
  rw [Memref.IsWhole.readAt_unread]
  congr 1
  have e := k0_off3_eq i 0
  funext a
  refine Fin.ext ?_
  show k0_off3 i (BitVec.ofNat 32 (128 + 128 * (0 : Fin 2).val)) a + 1 * (ix3 (0 : Fin 1) n d a).1 = _
  rw [e]
  match a with
  | ⟨0, _⟩ => rfl
  | ⟨1, _⟩ => show 1408 - (256 * (i 2).1 + 128 * 0) + 1 * n.1 = k.1; omega
  | ⟨2, _⟩ => show 0 + 1 * d.1 = d.1; omega

theorem pos1_at (n : Fin 1664) (d : Fin 64) (k : Fin 3072) (hk : k.1 = 1280 - 256 * (i 2).1 + n.1) : pos1 i arg6 harg6 x3 (ix3 0 n d) = x3 (ix3 0 k d) := by
  have h2 : (i 2).1 < 6 := (i 2).2
  unfold pos1
  rw [Memref.IsWhole.readAt_unread]
  congr 1
  have e := k0_off3_eq i 1
  funext a
  refine Fin.ext ?_
  show k0_off3 i (BitVec.ofNat 32 (128 + 128 * (1 : Fin 2).val)) a + 1 * (ix3 (0 : Fin 1) n d a).1 = _
  rw [e]
  match a with
  | ⟨0, _⟩ => rfl
  | ⟨1, _⟩ => show 1408 - (256 * (i 2).1 + 128 * 1) + 1 * n.1 = k.1; omega
  | ⟨2, _⟩ => show 0 + 1 * d.1 = d.1; omega

/-- The position products of the first sub-block. -/
theorem bd0_at (r : Fin 128) (n : Fin 1664) (R : Fin 256) (hR : R.1 = r.1) (k : Fin 3072) (hk : k.1 = 1408 - 256 * (i 2).1 + n.1) :
    bd0 c i arg3 harg3 arg6 harg6 arg8 harg8 x0 x3 x5 (ix2 r n) = ∑ d : Fin 64, rowCode (row x0 x5 R) d * (show EReal from x3 (ix3 0 k d)) := by
  unfold bd0 k0_pay22
  pointwise
  refine Finset.sum_congr rfl fun d _ => ?_
  rw [pos0_at i arg6 harg6 x3 n d k hk]
  refine congrArg (· * _) ?_
  refine Eq.trans ?_ (r10_at c arg3 harg3 arg8 harg8 x0 x5 R d)
  congr 1
  idx_ext <;> omega

/-- The position products of the second sub-block. -/
theorem bd1_at (r : Fin 128) (n : Fin 1664) (R : Fin 256) (hR : R.1 = 128 + r.1) (k : Fin 3072) (hk : k.1 = 1280 - 256 * (i 2).1 + n.1) :
    bd1 c i arg3 harg3 arg6 harg6 arg8 harg8 x0 x3 x5 (ix2 r n) = ∑ d : Fin 64, rowCode (row x0 x5 R) d * (show EReal from x3 (ix3 0 k d)) := by
  unfold bd1 k0_pay86 k0_pay85
  pointwise
  refine Finset.sum_congr rfl fun d _ => ?_
  rw [pos1_at i arg6 harg6 x3 n d k hk]
  refine congrArg (· * _) ?_
  refine Eq.trans ?_ (r10_at c arg3 harg3 arg8 harg8 x0 x5 R d)
  congr 1
  idx_ext <;> omega

theorem vals_eq : vals arg5 harg5 x2 = x2 := load_whole arg5 harg5 _ (by decide) _ x2

/-- The score of query row `r` and key `j`, in base two. -/
theorem table_at (r : Fin 256) (j : Fin 1536) (k : Fin 3072) (hk : k.1 = 1535 - (256 * (i 2).1 + r.1) + j.1) :
    table c i arg3 harg3 arg4 harg4 arg6 harg6 arg7 harg7 arg8 harg8 arg9 harg9 arg11 harg11 x0 x1 x3 x4 x5 x6 x8 r j
      = (∑ d : Fin 64, rowCode (row x0 x4 r) d * (show EReal from x1 (ix4 0 0 j d))) * (rowScale (row x0 x4 r) * (show EReal from x6 (ix2 (i 0) (i 1))) * scaleConst)
        + (∑ d : Fin 64, rowCode (row x0 x5 r) d * (show EReal from x3 (ix3 0 k d))) * (rowScale (row x0 x5 r) * (show EReal from x8 (ix2 0 (i 1))) * scaleConst) := by
  have h2 : (i 2).1 < 6 := (i 2).2
  have hr := r.isLt
  unfold table scores
  rw [r14_at, r11_at, r13_at]
  refine congrArg₂ (fun a b : EReal => a + b) rfl (congrArg (fun a : EReal => a * _) ?_)
  by_cases h : r.1 < 128
  · rw [dif_pos h]
    exact bd0_at c i arg3 harg3 arg6 harg6 arg8 harg8 x0 x3 x5 _ _ r rfl k (by show k.1 = 1408 - 256 * (i 2).1 + (j.1 + 127 - r.1); omega)
  · rw [dif_neg h]
    exact bd1_at c i arg3 harg3 arg6 harg6 arg8 harg8 x0 x3 x5 _ _ r (by show r.1 = 128 + (r.1 - 128); omega) k (by show k.1 = 1280 - 256 * (i 2).1 + (j.1 + 127 - (r.1 - 128)); omega)

/-- The factor is one over eight times the logarithm of two. -/
theorem scaleConst_eq : scaleConst = (((8 * Real.log 2)⁻¹ : ℝ) : EReal) := by
  unfold scaleConst
  rfl

end point

end Cert.Proof.Kern

end
-- ==== Proof.KernelArrays.lean ====
/- The kernel's output arrays as functions of its arguments. -/
module

public import proofs.«01_k».proof.Proof.KernelBlocks
public import Idealize.ShloMosaic.Lib.StableHlo.ReadAt

@[expose] public section

set_option maxRecDepth 16384

noncomputable section

namespace Cert.Proof.Kern

open Idealize.ShloMosaic Idealize.ShloMosaic.TcCoe Cert.KernelIdeal Cert.KernelIdeal.Gen
open scoped BigOperators

section host

variable (W : (b : DevRef τ sig) → b.ty.Contents (Elt Ideal))

theorem host_v0 (Q : S16x1536x4x64.Idx → EReal) (hQ : W (Proc.devRef .tc main_arg0) = Q) (b : Fin 16) (h : Fin 4) (i : Fin 1536) (d : Fin 64) :
    StableHlo.after hostOps0 W (Proc.devRef .tc main_v0) (ix4 b h i d) = Q (ix4 b i h d) := by
  subst hQ
  after_reads_at

theorem host_v1 (K : S16x1536x4x64.Idx → EReal) (hK : W (Proc.devRef .tc main_arg1) = K) (b : Fin 16) (h : Fin 4) (i : Fin 1536) (d : Fin 64) :
    StableHlo.after hostOps0 W (Proc.devRef .tc main_v1) (ix4 b h i d) = K (ix4 b i h d) := by
  subst hK
  after_reads_at

theorem host_v2 (X : S16x1536x4x64.Idx → EReal) (hX : W (Proc.devRef .tc main_arg3) = X) (b : Fin 16) (h : Fin 4) (i : Fin 1536) (d : Fin 64) :
    StableHlo.after hostOps0 W (Proc.devRef .tc main_v2) (ix4 b h i d) = X (ix4 b i h d) := by
  subst hX
  after_reads_at

theorem host_v5 (P : S3071x4x64.Idx → EReal) (hP : W (Proc.devRef .tc main_arg5) = P) (h : Fin 4) (k : Fin 3072) (n : Fin 3071) (hk : k.1 = n.1) (d : Fin 64) :
    StableHlo.after hostOps0 W (Proc.devRef .tc main_v5) (ix3 h k d) = P (ix3 n h d) := by
  subst hP
  after_reads_at
  rw [dif_pos (show k.1 < 3071 by omega)]
  exact congrArg (fun z => W (Proc.devRef .tc main_arg5) (ix3 z h d)) (Fin.ext hk)

theorem host_v6 (B : S4x64.Idx → EReal) (hB : W (Proc.devRef .tc main_arg7) = B) (h : Fin 4) (d : Fin 64) :
    StableHlo.after hostOps0 W (Proc.devRef .tc main_v6) (ix3 h (0 : Fin 1) d) = B (ix2 h d) := by
  subst hB
  after_reads_at

theorem host_v7 (B : S4x64.Idx → EReal) (hB : W (Proc.devRef .tc main_arg8) = B) (h : Fin 4) (d : Fin 64) :
    StableHlo.after hostOps0 W (Proc.devRef .tc main_v7) (ix3 h (0 : Fin 1) d) = B (ix2 h d) := by
  subst hB
  after_reads_at

theorem host_v8 (s : S4.Idx → EReal) (hs : W (Proc.devRef .tc main_arg6) = s) (h : Fin 4) :
    StableHlo.after hostOps0 W (Proc.devRef .tc main_v8) (ix2 (0 : Fin 1) h) = s (ix1 h) := by
  subst hs
  after_reads_at

end host

section arrays

variable (m : (ℓ : Loc nD τ sig) → Buf (Elt Ideal) ℓ) (c : Dev nD)

theorem ind0 : ∀ t : Fin cfg0.N, win0_0.index t = ![(grid0.coords t 0).val, (grid0.coords t 1).val, (grid0.coords t 2).val, 0] :=
  (by decide +kernel : ∀ t : Fin grid0.N, _)
theorem ind1 : ∀ t : Fin cfg0.N, win0_1.index t = ![(grid0.coords t 0).val, (grid0.coords t 1).val, 0, 0] :=
  (by decide +kernel : ∀ t : Fin grid0.N, _)
theorem ind2 : ∀ t : Fin cfg0.N, win0_2.index t = ![(grid0.coords t 0).val, (grid0.coords t 1).val, 0, 0] :=
  (by decide +kernel : ∀ t : Fin grid0.N, _)
theorem ind3 : ∀ t : Fin cfg0.N, win0_3.index t = ![(grid0.coords t 1).val, 0, 0] :=
  (by decide +kernel : ∀ t : Fin grid0.N, _)
theorem ind4 : ∀ t : Fin cfg0.N, win0_4.index t = ![(grid0.coords t 1).val, 0, 0] :=
  (by decide +kernel : ∀ t : Fin grid0.N, _)
theorem ind5 : ∀ t : Fin cfg0.N, win0_5.index t = ![(grid0.coords t 1).val, 0, 0] :=
  (by decide +kernel : ∀ t : Fin grid0.N, _)
theorem ind6 : ∀ t : Fin cfg0.N, win0_6.index t = ![0, 0] :=
  (by decide +kernel : ∀ t : Fin grid0.N, _)
theorem ind7 : ∀ t : Fin cfg0.N, win0_7.index t = ![0, 0] :=
  (by decide +kernel : ∀ t : Fin grid0.N, _)
theorem ind8 : ∀ t : Fin cfg0.N, win0_8.index t = ![0, 0] :=
  (by decide +kernel : ∀ t : Fin grid0.N, _)
theorem ind9 : ∀ t : Fin cfg0.N, win0_9.index t = ![(grid0.coords t 0).val, (grid0.coords t 1).val, (grid0.coords t 2).val, 0] :=
  (by decide +kernel : ∀ t : Fin grid0.N, _)
theorem ind10 : ∀ t : Fin cfg0.N, win0_10.index t = ![(grid0.coords t 0).val, (grid0.coords t 1).val, (grid0.coords t 2).val, 0] :=
  (by decide +kernel : ∀ t : Fin grid0.N, _)
theorem ind11 : ∀ t : Fin cfg0.N, win0_11.index t = ![(grid0.coords t 0).val, (grid0.coords t 1).val, (grid0.coords t 2).val, 0] :=
  (by decide +kernel : ∀ t : Fin grid0.N, _)
theorem ind12 : ∀ t : Fin cfg0.N, win0_12.index t = ![(grid0.coords t 0).val, (grid0.coords t 1).val, (grid0.coords t 2).val, 0] :=
  (by decide +kernel : ∀ t : Fin grid0.N, _)
theorem ind13 : ∀ t : Fin cfg0.N, win0_13.index t = ![(grid0.coords t 0).val, (grid0.coords t 1).val, (grid0.coords t 2).val, 0] :=
  (by decide +kernel : ∀ t : Fin grid0.N, _)

variable (t : Fin cfg0.N) (b : Fin 16) (hb : b.1 = (grid0.coords t 0).1) (h : Fin 4) (hh : h.1 = (grid0.coords t 1).1)

include hb hh in
theorem iblk0_at (r : Fin 256) (d : Fin 64) (i : Fin 1536) (hi : i.1 = 256 * (grid0.coords t 2).1 + r.1) :
    iblk m c 0 t (ix4 (0 : Fin 1) (0 : Fin 1) r d) = V m c main_v0 (ix4 b h i d) := by
  blk_simp [iblk, ind0]
  refine congrArg _ ?_
  blk_ext [ind0]

include hb hh in
theorem iblk1_at (j : Fin 1536) (d : Fin 64) :
    iblk m c 1 t (ix4 (0 : Fin 1) (0 : Fin 1) j d) = V m c main_v1 (ix4 b h j d) := by
  blk_simp [iblk, ind1]
  refine congrArg _ ?_
  blk_ext [ind1]

include hb hh in
theorem iblk2_at (j : Fin 1536) (d : Fin 64) :
    iblk m c 2 t (ix4 (0 : Fin 1) (0 : Fin 1) j d) = V m c main_v2 (ix4 b h j d) := by
  blk_simp [iblk, ind2]
  refine congrArg _ ?_
  blk_ext [ind2]

include hh in
theorem iblk3_at (k : Fin 3072) (d : Fin 64) :
    iblk m c 3 t (ix3 (0 : Fin 1) k d) = V m c main_v5 (ix3 h k d) := by
  blk_simp [iblk, ind3]
  refine congrArg _ ?_
  blk_ext [ind3]

include hh in
theorem iblk4_at (d : Fin 64) :
    iblk m c 4 t (ix3 (0 : Fin 1) (0 : Fin 1) d) = V m c main_v6 (ix3 h (0 : Fin 1) d) := by
  blk_simp [iblk, ind4]
  refine congrArg _ ?_
  blk_ext [ind4]

include hh in
theorem iblk5_at (d : Fin 64) :
    iblk m c 5 t (ix3 (0 : Fin 1) (0 : Fin 1) d) = V m c main_v7 (ix3 h (0 : Fin 1) d) := by
  blk_simp [iblk, ind5]
  refine congrArg _ ?_
  blk_ext [ind5]

include hb hh in
theorem iblk6_at (b' : Fin 16) (hb' : b'.1 = b.1) (h' : Fin 4) (hh' : h'.1 = h.1) :
    iblk m c 6 t (ix2 b' h') = V m c main_arg2 (ix2 b h) := by
  blk_simp [iblk, ind6]
  refine congrArg _ ?_
  blk_ext [ind6]

include hb hh in
theorem iblk7_at (b' : Fin 16) (hb' : b'.1 = b.1) (h' : Fin 4) (hh' : h'.1 = h.1) :
    iblk m c 7 t (ix2 b' h') = V m c main_arg4 (ix2 b h) := by
  blk_simp [iblk, ind7]
  refine congrArg _ ?_
  blk_ext [ind7]

include hh in
theorem iblk8_at (h' : Fin 4) (hh' : h'.1 = h.1) :
    iblk m c 8 t (ix2 (0 : Fin 1) h') = V m c main_v8 (ix2 (0 : Fin 1) h) := by
  blk_simp [iblk, ind8]
  refine congrArg _ ?_
  blk_ext [ind8]

/-- The query row of batch `b`, head `h`, position `i`, with its bias added. -/
def biasedRow (Q : S16x4x1536x64.Idx → EReal) (B : S4x1x64.Idx → EReal) (b : Fin 16) (h : Fin 4) (i : Fin 1536) : Fin 64 → EReal :=
  fun d => Q (ix4 b h i d) + B (ix3 h (0 : Fin 1) d)

include hb hh in
theorem row4_eq (Q : S16x4x1536x64.Idx → EReal) (hQ : V m c main_v0 = Q) (B : S4x1x64.Idx → EReal) (hB : V m c main_v6 = B)
    (r : Fin 256) (i : Fin 1536) (hi : i.1 = 256 * (grid0.coords t 2).1 + r.1) :
    row (iblk m c 0 t) (iblk m c 4 t) r = biasedRow Q B b h i := by
  subst hQ hB
  funext d
  exact congrArg₂ (fun p q : EReal => p + q) (iblk0_at m c t b hb h hh r d i hi) (iblk4_at m c t h hh d)

include hb hh in
theorem row5_eq (Q : S16x4x1536x64.Idx → EReal) (hQ : V m c main_v0 = Q) (B : S4x1x64.Idx → EReal) (hB : V m c main_v7 = B)
    (r : Fin 256) (i : Fin 1536) (hi : i.1 = 256 * (grid0.coords t 2).1 + r.1) :
    row (iblk m c 0 t) (iblk m c 5 t) r = biasedRow Q B b h i := by
  subst hQ hB
  funext d
  exact congrArg₂ (fun p q : EReal => p + q) (iblk0_at m c t b hb h hh r d i hi) (iblk5_at m c t h hh d)

end arrays

end Cert.Proof.Kern

end
-- ==== Proof.KernelOut.lean ====
/- The kernel's output arrays as functions of the arrays its region finds. -/
module

public import proofs.«01_k».proof.Proof.KernelArrays

@[expose] public section

set_option maxRecDepth 16384

noncomputable section

namespace Cert.Proof.Kern

open Idealize.ShloMosaic Idealize.ShloMosaic.TcCoe Cert.KernelIdeal Cert.KernelIdeal.Gen
open scoped BigOperators

variable (m : (ℓ : Loc nD τ sig) → Buf (Elt Ideal) ℓ) (c : Dev nD) (t : Fin cfg0.N)

/-- What grid point `t` leaves as its block of attention results. -/
theorem after9_eq : (dats m 0 c).after 9 t = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_9]
  dsimp only [outsAt0]

/-- What grid point `t` leaves as its block of codes for the content scores. -/
theorem after10_eq : (dats m 0 c).after 10 t = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_10]
  dsimp only [outsAt0]

/-- What grid point `t` leaves as its block of scales for the content scores. -/
theorem after11_eq : (dats m 0 c).after 11 t = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_11]
  dsimp only [outsAt0]

/-- What grid point `t` leaves as its block of codes for the position scores. -/
theorem after12_eq : (dats m 0 c).after 12 t = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_12]
  dsimp only [outsAt0]

/-- What grid point `t` leaves as its block of scales for the position scores. -/
theorem after13_eq : (dats m 0 c).after 13 t = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_13]
  dsimp only [outsAt0]

/-- The block of codes for the content scores at a place. -/
theorem after10_at (r : Fin 256) (d : Fin 64) : (dats m 0 c).after 10 t (ix4 (0 : Fin 1) (0 : Fin 1) r d) = rowCode (row (iblk m c 0 t) (iblk m c 4 t) r) d := by
  rw [after10_eq]
  exact out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r d

/-- The whole array of codes for the content scores. -/
theorem arr10 (Q : S16x4x1536x64.Idx → EReal) (hQ : V m c main_v0 = Q) (B : S4x1x64.Idx → EReal) (hB : V m c main_v6 = B) :
    (dats m 0 c).arrAt 10 cfg0.N = fun w : S16x4x1536x64.Idx => rowCode (biasedRow Q B (w 0) (w 1) (w 2)) (w 3) := by
  refine (dats m 0 c).arrAt_eq_of_covers 10 _ (by decide +kernel) fun t hf y => ?_
  have e0 : ((win0_10.blk t).view.emb y 0).1 = (grid0.coords t 0).1 := by blk_simp [ind10]
  have e1 : ((win0_10.blk t).view.emb y 1).1 = (grid0.coords t 1).1 := by blk_simp [ind10]
  have e2 : ((win0_10.blk t).view.emb y 2).1 = 256 * (grid0.coords t 2).1 + (y 2).1 := by blk_simp [ind10]; omega
  have e3 : (win0_10.blk t).view.emb y 3 = y 3 := by apply Fin.ext; blk_simp [ind10]
  have ey : y = ix4 (0 : Fin 1) (0 : Fin 1) (y 2) (y 3) := by idx_bounds y; idx_ext
  refine (congrArg ((dats m 0 c).after 10 t) ey).trans ?_
  refine (after10_at m c t (y 2) (y 3)).trans ?_
  have hrow := row4_eq m c t _ e0 _ e1 Q hQ B hB (y 2) _ e2
  exact (congrArg (fun z => rowCode z (y 3)) hrow).trans (congrArg (rowCode _) e3.symm)

/-- The block of scales for the content scores at a place. -/
theorem after11_at (r : Fin 256) : (dats m 0 c).after 11 t (ix4 (0 : Fin 1) (0 : Fin 1) r (0 : Fin 1)) = rowScale (row (iblk m c 0 t) (iblk m c 4 t) r) := by
  rw [after11_eq]
  exact out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r

/-- The whole array of scales for the content scores. -/
theorem arr11 (Q : S16x4x1536x64.Idx → EReal) (hQ : V m c main_v0 = Q) (B : S4x1x64.Idx → EReal) (hB : V m c main_v6 = B) :
    (dats m 0 c).arrAt 11 cfg0.N = fun w : S16x4x1536x1.Idx => rowScale (biasedRow Q B (w 0) (w 1) (w 2)) := by
  refine (dats m 0 c).arrAt_eq_of_covers 11 _ (by decide +kernel) fun t hf y => ?_
  have e0 : ((win0_11.blk t).view.emb y 0).1 = (grid0.coords t 0).1 := by blk_simp [ind11]
  have e1 : ((win0_11.blk t).view.emb y 1).1 = (grid0.coords t 1).1 := by blk_simp [ind11]
  have e2 : ((win0_11.blk t).view.emb y 2).1 = 256 * (grid0.coords t 2).1 + (y 2).1 := by blk_simp [ind11]; omega
  have ey : y = ix4 (0 : Fin 1) (0 : Fin 1) (y 2) (0 : Fin 1) := by idx_bounds y; idx_ext
  refine (congrArg ((dats m 0 c).after 11 t) ey).trans ?_
  refine (after11_at m c t (y 2)).trans ?_
  have hrow := row4_eq m c t _ e0 _ e1 Q hQ B hB (y 2) _ e2
  exact congrArg rowScale hrow

/-- The block of codes for the position scores at a place. -/
theorem after12_at (r : Fin 256) (d : Fin 64) : (dats m 0 c).after 12 t (ix4 (0 : Fin 1) (0 : Fin 1) r d) = rowCode (row (iblk m c 0 t) (iblk m c 5 t) r) d := by
  rw [after12_eq]
  exact out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r d

/-- The whole array of codes for the position scores. -/
theorem arr12 (Q : S16x4x1536x64.Idx → EReal) (hQ : V m c main_v0 = Q) (B : S4x1x64.Idx → EReal) (hB : V m c main_v7 = B) :
    (dats m 0 c).arrAt 12 cfg0.N = fun w : S16x4x1536x64.Idx => rowCode (biasedRow Q B (w 0) (w 1) (w 2)) (w 3) := by
  refine (dats m 0 c).arrAt_eq_of_covers 12 _ (by decide +kernel) fun t hf y => ?_
  have e0 : ((win0_12.blk t).view.emb y 0).1 = (grid0.coords t 0).1 := by blk_simp [ind12]
  have e1 : ((win0_12.blk t).view.emb y 1).1 = (grid0.coords t 1).1 := by blk_simp [ind12]
  have e2 : ((win0_12.blk t).view.emb y 2).1 = 256 * (grid0.coords t 2).1 + (y 2).1 := by blk_simp [ind12]; omega
  have e3 : (win0_12.blk t).view.emb y 3 = y 3 := by apply Fin.ext; blk_simp [ind12]
  have ey : y = ix4 (0 : Fin 1) (0 : Fin 1) (y 2) (y 3) := by idx_bounds y; idx_ext
  refine (congrArg ((dats m 0 c).after 12 t) ey).trans ?_
  refine (after12_at m c t (y 2) (y 3)).trans ?_
  have hrow := row5_eq m c t _ e0 _ e1 Q hQ B hB (y 2) _ e2
  exact (congrArg (fun z => rowCode z (y 3)) hrow).trans (congrArg (rowCode _) e3.symm)

/-- The block of scales for the position scores at a place. -/
theorem after13_at (r : Fin 256) : (dats m 0 c).after 13 t (ix4 (0 : Fin 1) (0 : Fin 1) r (0 : Fin 1)) = rowScale (row (iblk m c 0 t) (iblk m c 5 t) r) := by
  rw [after13_eq]
  exact out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r

/-- The whole array of scales for the position scores. -/
theorem arr13 (Q : S16x4x1536x64.Idx → EReal) (hQ : V m c main_v0 = Q) (B : S4x1x64.Idx → EReal) (hB : V m c main_v7 = B) :
    (dats m 0 c).arrAt 13 cfg0.N = fun w : S16x4x1536x1.Idx => rowScale (biasedRow Q B (w 0) (w 1) (w 2)) := by
  refine (dats m 0 c).arrAt_eq_of_covers 13 _ (by decide +kernel) fun t hf y => ?_
  have e0 : ((win0_13.blk t).view.emb y 0).1 = (grid0.coords t 0).1 := by blk_simp [ind13]
  have e1 : ((win0_13.blk t).view.emb y 1).1 = (grid0.coords t 1).1 := by blk_simp [ind13]
  have e2 : ((win0_13.blk t).view.emb y 2).1 = 256 * (grid0.coords t 2).1 + (y 2).1 := by blk_simp [ind13]; omega
  have ey : y = ix4 (0 : Fin 1) (0 : Fin 1) (y 2) (0 : Fin 1) := by idx_bounds y; idx_ext
  refine (congrArg ((dats m 0 c).after 13 t) ey).trans ?_
  refine (after13_at m c t (y 2)).trans ?_
  have hrow := row5_eq m c t _ e0 _ e1 Q hQ B hB (y 2) _ e2
  exact congrArg rowScale hrow

/-- The padded position row that query `i` meets at key `j`. -/
def place (i j : Fin 1536) : Fin 3072 := ⟨1535 - i.1 + j.1, by omega⟩

/-- The kernel's score of query `i` and key `j`, in base two. -/
def score2 (Q K : S16x4x1536x64.Idx → EReal) (P : S4x3072x64.Idx → EReal) (Bu Bv : S4x1x64.Idx → EReal) (ks : S16x4.Idx → EReal) (ps : S1x4.Idx → EReal)
    (b : Fin 16) (h : Fin 4) (i j : Fin 1536) : EReal :=
  (∑ d : Fin 64, rowCode (biasedRow Q Bu b h i) d * K (ix4 b h j d)) * (rowScale (biasedRow Q Bu b h i) * ks (ix2 b h) * scaleConst)
    + (∑ d : Fin 64, rowCode (biasedRow Q Bv b h i) d * P (ix3 h (place i j) d)) * (rowScale (biasedRow Q Bv b h i) * ps (ix2 (0 : Fin 1) h) * scaleConst)

/-- The softmax in base two of the scores `T`, applied to the column `U`, times `s`. -/
def attendBy (T U : Fin 1536 → EReal) (s : EReal) : EReal :=
  (∑ j, Ideal.exp2 (T j - Finset.univ.sup T) * U j) * Ideal.div s (∑ j, Ideal.exp2 (T j - Finset.univ.sup T))

theorem attend_eq (G : Fin 256 → Fin 1536 → EReal) (X : S1x1x1536x64.Idx → EReal) (vs : EReal) (r : Fin 256) (d : Fin 64)
    (T U : Fin 1536 → EReal) (s : EReal) (hT : G r = T) (hU : ∀ j, X (ix4 (0 : Fin 1) (0 : Fin 1) j d) = U j) (hs : vs = s) :
    attend G X vs r d = attendBy T U s := by
  obtain rfl : (fun j => X (ix4 (0 : Fin 1) (0 : Fin 1) j d)) = U := funext hU
  subst hT hs
  rfl

theorem sum_eq (f g g' : Fin 64 → EReal) (s s' : EReal) (k : EReal) (x : EReal) (hg : ∀ d, g d = g' d) (hs : s = s') :
    (∑ d, f d * g d) * (x * s * k) = (∑ d, f d * g' d) * (x * s' * k) := by
  obtain rfl := funext hg
  rw [hs]

/-- The block of attention results at a place. -/
theorem after9_at (b : Fin 16) (e0 : b.1 = (grid0.coords t 0).1) (h : Fin 4) (e1 : h.1 = (grid0.coords t 1).1)
    (Q K X : S16x4x1536x64.Idx → EReal) (hQ : V m c main_v0 = Q) (hK : V m c main_v1 = K) (hX : V m c main_v2 = X)
    (P : S4x3072x64.Idx → EReal) (hP : V m c main_v5 = P) (Bu Bv : S4x1x64.Idx → EReal) (hu : V m c main_v6 = Bu) (hv : V m c main_v7 = Bv)
    (ks vs : S16x4.Idx → EReal) (hks : V m c main_arg2 = ks) (hvs : V m c main_arg4 = vs) (ps : S1x4.Idx → EReal) (hps : V m c main_v8 = ps)
    (y : S1x1x256x64.Idx) (i : Fin 1536) (e2 : i.1 = 256 * (grid0.coords t 2).1 + (y 2).1) :
    (dats m 0 c).after 9 t y = attendBy (score2 Q K P Bu Bv ks ps b h i) (fun j => X (ix4 b h j (y 3))) (vs (ix2 b h)) := by
  have hu' := row4_eq m c t b e0 h e1 Q hQ Bu hu (y 2) i e2
  have hv' := row5_eq m c t b e0 h e1 Q hQ Bv hv (y 2) i e2
  rw [after9_eq]
  refine (out9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) y).trans ?_
  refine attend_eq _ _ _ (y 2) (y 3) _ _ _ (funext fun j => ?_) (fun j => ?_) ?_
  · refine (table_at c (grid0.coords t) (ms0_0 t) (hs0_0 t) (ms0_1 t) (hs0_1 t) (ms0_3 t) (hs0_3 t) (ms0_4 t) (hs0_4 t) (ms0_5 t) (hs0_5 t) (ms0_6 t) (hs0_6 t) (ms0_8 t) (hs0_8 t) (iblk m c 0 t) (iblk m c 1 t) (iblk m c 3 t) (iblk m c 4 t) (iblk m c 5 t) (iblk m c 6 t) (iblk m c 8 t) (y 2) j (place i j) ?_).trans ?_
    · show 1535 - i.1 + j.1 = _
      rw [e2]
    · rw [hu', hv']
      subst hK hP hks hps
      exact congrArg₂ (fun p q : EReal => p + q)
        (sum_eq _ _ _ _ _ _ _ (fun d => iblk1_at m c t b e0 h e1 j d) (iblk6_at m c t b e0 h e1 _ e0.symm _ e1.symm))
        (sum_eq _ _ _ _ _ _ _ (fun d => iblk3_at m c t h e1 _ d) (iblk8_at m c t h e1 _ e1.symm))
  · rw [vals_eq]
    subst hX
    exact iblk2_at m c t b e0 h e1 j (y 3)
  · rw [r47_eq]
    subst hvs
    exact iblk7_at m c t b e0 h e1 _ e0.symm _ e1.symm

/-- The whole array of attention results. -/
theorem arr9 (Q K X : S16x4x1536x64.Idx → EReal) (hQ : V m c main_v0 = Q) (hK : V m c main_v1 = K) (hX : V m c main_v2 = X)
    (P : S4x3072x64.Idx → EReal) (hP : V m c main_v5 = P) (Bu Bv : S4x1x64.Idx → EReal) (hu : V m c main_v6 = Bu) (hv : V m c main_v7 = Bv)
    (ks vs : S16x4.Idx → EReal) (hks : V m c main_arg2 = ks) (hvs : V m c main_arg4 = vs) (ps : S1x4.Idx → EReal) (hps : V m c main_v8 = ps) :
    (dats m 0 c).arrAt 9 cfg0.N = fun w : S16x4x1536x64.Idx =>
      attendBy (score2 Q K P Bu Bv ks ps (w 0) (w 1) (w 2)) (fun j => X (ix4 (w 0) (w 1) j (w 3))) (vs (ix2 (w 0) (w 1))) := by
  refine (dats m 0 c).arrAt_eq_of_covers 9 _ (by decide +kernel) fun t hf y => ?_
  have e0 : ((win0_9.blk t).view.emb y 0).1 = (grid0.coords t 0).1 := by blk_simp [ind9]
  have e1 : ((win0_9.blk t).view.emb y 1).1 = (grid0.coords t 1).1 := by blk_simp [ind9]
  have e2 : ((win0_9.blk t).view.emb y 2).1 = 256 * (grid0.coords t 2).1 + (y 2).1 := by blk_simp [ind9]; omega
  have e3 : (win0_9.blk t).view.emb y 3 = y 3 := by apply Fin.ext; blk_simp [ind9]
  refine (after9_at m c t _ e0 _ e1 Q K X hQ hK hX P hP Bu Bv hu hv ks vs hks hvs ps hps y _ e2).trans ?_
  exact congrArg (fun z => attendBy _ (fun j => X (ix4 _ _ j z)) _) e3.symm

end Cert.Proof.Kern

end
-- ==== Proof.KernelTail.lean ====
/- The host's last steps of the kernel: transposes and reshapes, read at an index. -/
module

public import proofs.«01_k».proof.Proof.KernelOut
public import Idealize.ShloMosaic.Lib.StableHlo.ReadAt

@[expose] public section

set_option maxRecDepth 16384

noncomputable section

namespace Cert.Proof.Kern

open Idealize.ShloMosaic Idealize.ShloMosaic.TcCoe Cert.KernelIdeal Cert.KernelIdeal.Gen
open scoped BigOperators

variable (W : (b : DevRef τ sig) → b.ty.Contents (Elt Ideal))

theorem tail_v11 (A : S16x4x1536x64.Idx → EReal) (hA : W (Proc.devRef .tc main_v9_0) = A) (b : Fin 16) (i : Fin 1536) (l : Fin 256) (h : Fin 4) (d : Fin 64)
    (hh : h.1 = l.1 / 64) (hd : d.1 = l.1 % 64) :
    StableHlo.after hostOps1 W (Proc.devRef .tc main_v11) (ix3 b i l) = A (ix4 b h i d) := by
  subst hA
  after_reads_at
  exact congrArg₂ (fun p q => W (Proc.devRef .tc main_v9_0) (ix4 b p i q)) (Fin.ext hh.symm) (Fin.ext hd.symm)

theorem tail_v12 (A : S16x4x1536x64.Idx → EReal) (hA : W (Proc.devRef .tc main_v9_1) = A) (b : Fin 16) (i : Fin 1536) (h : Fin 4) (d : Fin 64) :
    StableHlo.after hostOps1 W (Proc.devRef .tc main_v12) (ix4 b i h d) = A (ix4 b h i d) := by
  subst hA
  after_reads_at

theorem tail_v14 (A : S16x4x1536x1.Idx → EReal) (hA : W (Proc.devRef .tc main_v9_2) = A) (b : Fin 16) (i : Fin 1536) (h : Fin 4) :
    StableHlo.after hostOps1 W (Proc.devRef .tc main_v14) (ix3 b i h) = A (ix4 b h i (0 : Fin 1)) := by
  subst hA
  after_reads_at

theorem tail_v15 (A : S16x4x1536x64.Idx → EReal) (hA : W (Proc.devRef .tc main_v9_3) = A) (b : Fin 16) (i : Fin 1536) (h : Fin 4) (d : Fin 64) :
    StableHlo.after hostOps1 W (Proc.devRef .tc main_v15) (ix4 b i h d) = A (ix4 b h i d) := by
  subst hA
  after_reads_at

theorem tail_v17 (A : S16x4x1536x1.Idx → EReal) (hA : W (Proc.devRef .tc main_v9_4) = A) (b : Fin 16) (i : Fin 1536) (h : Fin 4) :
    StableHlo.after hostOps1 W (Proc.devRef .tc main_v17) (ix3 b i h) = A (ix4 b h i (0 : Fin 1)) := by
  subst hA
  after_reads_at

end Cert.Proof.Kern

end
-- ==== Proof.Rows.lean ====
/- One row of biased queries: the kernel's exponent, scale and codes are the reference's. -/
module

public import proofs.«01_k».proof.Proof.KernelRows

@[expose] public section

noncomputable section

namespace Cert.Proof.Kern

open Idealize.ShloMosaic
open scoped BigOperators

/-- The greatest magnitude of a row. -/
def amax (x : Fin 64 → EReal) : EReal :=
  Finset.univ.fold max (Ideal.ofBits FTy.f32 4286578688#32) (fun d => max (x d) (-(x d)))

/-- The exponent by a logarithm. -/
def logExpo (a : EReal) : EReal :=
  if a = 0 then 0 else
    max (Ideal.liftRound Int.floor (Ideal.div (Ideal.log (a * Ideal.ofBits FTy.f32 991054117#32)) (Ideal.log (Ideal.ofBits FTy.f32 1073741824#32))) + 1)
      (Ideal.ofBits FTy.f32 3271294976#32)

theorem bot_bits : Ideal.ofBits FTy.f32 4286578688#32 = (⊥ : EReal) := by
  simp [Ideal.ofBits, Ideal.ieee]

theorem two_bits : Ideal.ofBits FTy.f32 1073741824#32 = (((2 : ℝ)) : EReal) := by
  simp [Ideal.ofBits, Ideal.ieee]
  rw [← EReal.coe_mul]
  norm_num

theorem low_bits : Ideal.ofBits FTy.f32 3271294976#32 = (((-126 : ℝ)) : EReal) := by
  simp [Ideal.ofBits, Ideal.ieee]
  rw [← EReal.coe_mul]
  norm_num

/-- The factor one over 448, as rounded. -/
theorem inv_bits : ∃ c : ℝ, Ideal.ofBits FTy.f32 991054117#32 = (c : EReal) ∧ 0 < c ∧ c < 2 ^ (-8 : ℤ) := by
  refine ⟨_, by simp [Ideal.ofBits, Ideal.ieee]; rfl, ?_, ?_⟩ <;> norm_num

theorem amax_real (x : Fin 64 → EReal) (hx : ∀ d, ∃ r : ℝ, x d = (r : EReal) ∧ |r| < 2 ^ 129) :
    ∃ a : ℝ, amax x = (a : EReal) ∧ 0 ≤ a ∧ a < 2 ^ 129 := by
  choose r hr hb using hx
  have e : amax x = Finset.univ.sup fun d => ((|r d| : ℝ) : EReal) := by
    unfold amax
    rw [bot_bits]
    refine Finset.fold_congr fun d _ => ?_
    rw [hr d, ← EReal.coe_neg]
    exact (EReal.coe_strictMono.monotone.map_max (a := r d) (b := -r d)).symm
  obtain ⟨d, -, hd⟩ := Finset.exists_mem_eq_sup (Finset.univ : Finset (Fin 64)) ⟨0, Finset.mem_univ _⟩ fun d => ((|r d| : ℝ) : EReal)
  exact ⟨|r d|, e.trans hd, abs_nonneg _, hb d⟩

/-- Both quantisers pick one and the same integer exponent. -/
theorem quant (x : Fin 64 → EReal) (hx : ∀ d, ∃ r : ℝ, x d = (r : EReal) ∧ |r| < 2 ^ 129) :
    ∃ z : ℤ, rowScale x = (((2 : ℝ) ^ z : ℝ) : EReal) ∧ rowInv x = (((2 : ℝ) ^ (-z) : ℝ) : EReal) ∧ logExpo (amax x) = ((z : ℝ) : EReal) := by
  obtain ⟨a, ha, h0, hlt⟩ := amax_real x hx
  obtain ⟨c, hc, c0, c1⟩ := inv_bits
  have hl : level x = ((a * c : ℝ) : EReal) := by
    show amax x * _ = _
    rw [ha, hc, EReal.coe_mul]
  have t0 : 0 ≤ a * c := mul_nonneg h0 c0.le
  have t1 : a * c < 2 ^ 121 := by
    have : a * c < 2 ^ 129 * 2 ^ (-8 : ℤ) := mul_lt_mul'' hlt c1 h0 c0.le
    refine this.trans_le (le_of_eq ?_)
    norm_num
  have hw := Quant.expWord_eq (a * c) t0 t1
  obtain ⟨z1, z2⟩ := Quant.qint_bounds (a * c) t0 t1
  refine ⟨Quant.qint (a * c), ?_, ?_, ?_⟩
  · unfold rowScale
    rw [hl, hw, Quant.scale_word _ z1 z2]
  · unfold rowInv
    rw [hl, hw, Quant.inv_word _ z1 z2]
  · unfold logExpo
    rw [ha]
    by_cases h : a = 0
    · subst h
      rw [if_pos EReal.coe_zero, zero_mul, Quant.qint, if_pos rfl]
      simp
    · have hne : ¬ ((a : EReal) = 0) := by exact_mod_cast h
      have hp : 0 < a * c := mul_pos (lt_of_le_of_ne h0 (Ne.symm h)) c0
      rw [if_neg hne, hc, ← EReal.coe_mul, two_bits, low_bits]
      exact Quant.logExp_eq _ hp

/-- The reference's scale of a row. -/
theorem scale_ref (x : Fin 64 → EReal) (hx : ∀ d, ∃ r : ℝ, x d = (r : EReal) ∧ |r| < 2 ^ 129) :
    Ideal.pow (Ideal.ofBits FTy.f32 1073741824#32) (logExpo (amax x)) = rowScale x := by
  obtain ⟨z, h1, -, h3⟩ := quant x hx
  rw [h1, h3, two_bits, Quant.pow_two]

theorem clip_bits : Ideal.ofBits FTy.f32 3286237184#32 ≤ Ideal.ofBits FTy.f32 1138753536#32 := by
  have e1 : Ideal.ofBits FTy.f32 3286237184#32 = (((-448 : ℝ)) : EReal) := by
    simp [Ideal.ofBits, Ideal.ieee]
    rw [← EReal.coe_mul]
    norm_num
  have e2 : Ideal.ofBits FTy.f32 1138753536#32 = (((448 : ℝ)) : EReal) := by
    simp [Ideal.ofBits, Ideal.ieee]
    rw [← EReal.coe_mul]
    norm_num
  rw [e1, e2]
  exact_mod_cast (by norm_num : (-448 : ℝ) ≤ 448)

/-- The reference's codes of a row. -/
theorem code_ref (x : Fin 64 → EReal) (hx : ∀ d, ∃ r : ℝ, x d = (r : EReal) ∧ |r| < 2 ^ 129) (d : Fin 64) :
    max (min (x d * Ideal.pow (Ideal.ofBits FTy.f32 1073741824#32) (-(logExpo (amax x)))) (Ideal.ofBits FTy.f32 1138753536#32))
      (Ideal.ofBits FTy.f32 3286237184#32) = rowCode x d := by
  obtain ⟨z, -, h2, h3⟩ := quant x hx
  have e : Ideal.pow (Ideal.ofBits FTy.f32 1073741824#32) (-(logExpo (amax x))) = rowInv x := by
    have := Quant.pow_two (-z)
    rw [h2, h3, two_bits, ← this]
    push_cast
    rfl
  unfold rowCode
  rw [e, max_min_distrib_right, max_eq_left clip_bits, min_comm, max_comm]

/-- A row's codes and scale are real. -/
theorem code_real (x : Fin 64 → EReal) (hx : ∀ d, ∃ r : ℝ, x d = (r : EReal) ∧ |r| < 2 ^ 129) (d : Fin 64) :
    ∃ r : ℝ, rowCode x d = (r : EReal) := by
  obtain ⟨z, -, h2, -⟩ := quant x hx
  obtain ⟨r, hr, -⟩ := hx d
  unfold rowCode
  have e1 : Ideal.ofBits FTy.f32 3286237184#32 = (((-448 : ℝ)) : EReal) := by
    simp [Ideal.ofBits, Ideal.ieee]
    rw [← EReal.coe_mul]
    norm_num
  have e2 : Ideal.ofBits FTy.f32 1138753536#32 = (((448 : ℝ)) : EReal) := by
    simp [Ideal.ofBits, Ideal.ieee]
    rw [← EReal.coe_mul]
    norm_num
  have hm : Monotone (fun x : ℝ => (x : EReal)) := EReal.coe_strictMono.monotone
  refine ⟨min 448 (max (-448) (r * 2 ^ (-z))), ?_⟩
  rw [h2, hr, e1, e2, ← EReal.coe_mul]
  exact ((hm.map_min (a := (448 : ℝ)) (b := max (-448) (r * 2 ^ (-z)))).trans (by rw [hm.map_max])).symm

end Cert.Proof.Kern
end
-- ==== Proof.Softmax.lean ====
/- The softmax over one row of scores, two ways: powers of two of rescaled scores with the division moved past the
   weighted sum, and the exponential of a log-softmax. -/
module

public import Idealize.ShloMosaic.Lib.IdealHost
public import Idealize.ShloMosaic.PureOps
public import Mathlib.Analysis.SpecialFunctions.Log.Basic

@[expose] public section

noncomputable section

namespace Cert.Proof.Soft

open Idealize.ShloMosaic
open scoped BigOperators

/-- A positive real factor moves through an extended-real addition. -/
theorem add_mul_coe (x y : EReal) (c : ℝ) (hc : 0 ≤ c) : (x + y) * (c : EReal) = x * c + y * c :=
  EReal.right_distrib_of_nonneg_of_ne_top (by exact_mod_cast hc) (EReal.coe_ne_top c) x y

/-- A nonnegative real factor moves through a sum of extended reals. -/
theorem sum_mul_coe {n : Nat} (f : Fin n → EReal) (c : ℝ) (hc : 0 ≤ c) : (∑ j, f j) * (c : EReal) = ∑ j, f j * c := by
  have h : ∀ s : Finset (Fin n), (∑ j ∈ s, f j) * (c : EReal) = ∑ j ∈ s, f j * c := by
    intro s
    induction s using Finset.induction_on with
    | empty => simp
    | insert a s ha ih => rw [Finset.sum_insert ha, Finset.sum_insert ha, add_mul_coe _ _ c hc, ih]
  exact h _

theorem sub_mul_coe (x y : EReal) (c : ℝ) (hc : 0 ≤ c) : (x - y) * (c : EReal) = x * c - y * c := by
  rw [sub_eq_add_neg, add_mul_coe _ _ c hc, EReal.neg_mul, ← sub_eq_add_neg]

/-- A power of two of a score over `log 2` is the exponential of the score. -/
theorem exp2_scaled (x : EReal) : Ideal.exp2 (x * (((Real.log 2)⁻¹ : ℝ) : EReal)) = Ideal.exp x := by
  have hp : 0 < (Real.log 2)⁻¹ := inv_pos.mpr (Real.log_pos (by norm_num))
  induction x using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

theorem sup_mul_coe {n : Nat} (s : Fin n → EReal) (c : ℝ) (hc : 0 < c) :
    (Finset.univ.sup fun j => s j * (c : EReal)) = (Finset.univ.sup s) * (c : EReal) := by
  have hm : Monotone (fun x : EReal => x * (c : EReal)) := fun x y h =>
    mul_le_mul_of_nonneg_right h (by exact_mod_cast hc.le)
  have hb : (fun x : EReal => x * (c : EReal)) ⊥ = ⊥ := EReal.bot_mul_coe_of_pos hc
  exact (Finset.comp_sup_eq_sup_comp_of_is_total (fun x : EReal => x * (c : EReal)) hm hb).symm

/-- The exponential of a nonpositive extended real is a real between zero and one. -/
theorem exp_real (x : EReal) (h : x ≤ 0) : ∃ e : ℝ, 0 ≤ e ∧ Ideal.exp x = (e : EReal) ∧
    ∀ l : ℝ, Ideal.exp (x - (l : EReal)) = ((e * Real.exp (-l) : ℝ) : EReal) := by
  induction x using EReal.rec with
  | bot => exact ⟨0, le_refl _, rfl, fun l => by rw [EReal.bot_sub, zero_mul]; rfl⟩
  | top => exact absurd h (by simp)
  | coe r =>
    refine ⟨Real.exp r, (Real.exp_pos r).le, rfl, fun l => ?_⟩
    rw [← EReal.coe_sub, ← Real.exp_add, ← sub_eq_add_neg]
    rfl

theorem sum_coe {n : Nat} (f : Fin n → ℝ) : (∑ j, (f j : EReal)) = ((∑ j, f j : ℝ) : EReal) := by
  have h : ∀ s : Finset (Fin n), (∑ j ∈ s, (f j : EReal)) = ((∑ j ∈ s, f j : ℝ) : EReal) := by
    intro s
    induction s using Finset.induction_on with
    | empty => simp
    | insert a s ha ih => rw [Finset.sum_insert ha, Finset.sum_insert ha, ih, EReal.coe_add]
  exact h _

/-- The weighted sum of a softmax: normalising after the sum by a division of the value scale is weighting with the
    exponential of the log-softmax and scaling afterwards. -/
theorem softmax_eq {n : Nat} (hn : 0 < n) (s V : Fin n → EReal) (vs : EReal) :
    (∑ j, Ideal.exp (s j - Finset.univ.sup s) * V j) * Ideal.div vs (∑ j, Ideal.exp (s j - Finset.univ.sup s))
      = (∑ j, V j * Ideal.exp ((s j - Finset.univ.sup s) - Ideal.log (∑ j, Ideal.exp (s j - Finset.univ.sup s)))) * vs := by
  obtain ⟨j0, -, hj0⟩ := Finset.exists_mem_eq_sup Finset.univ ⟨⟨0, hn⟩, Finset.mem_univ _⟩ s
  have hle : ∀ j, s j ≤ Finset.univ.sup s := fun j => Finset.le_sup (Finset.mem_univ j)
  revert hle hj0
  generalize Finset.univ.sup s = M
  intro hj0 hle
  by_cases hM : M = ⊤ ∨ M = ⊥
  · have hs : ∀ j, s j - M = ⊥ := by
      intro j
      rcases hM with h | h
      · rw [h, EReal.sub_top]
      · rw [h, show s j = ⊥ from le_bot_iff.mp (h ▸ hle j), EReal.bot_sub]
    have e0 : Ideal.exp ⊥ = 0 := rfl
    simp only [hs, e0, EReal.bot_sub, mul_zero, zero_mul, Finset.sum_const_zero]
  · obtain ⟨m, rfl⟩ : ∃ m : ℝ, M = (m : EReal) :=
      ⟨M.toReal, (EReal.coe_toReal (fun h => hM (Or.inl h)) (fun h => hM (Or.inr h))).symm⟩
    have hx : ∀ j, s j - (m : EReal) ≤ 0 := fun j => by
      rw [EReal.sub_le_iff_le_add (Or.inl (EReal.coe_ne_bot m)) (Or.inl (EReal.coe_ne_top m)), zero_add]
      exact hle j
    choose e he0 he hel using fun j => exp_real (s j - (m : EReal)) (hx j)
    have h1 : e j0 = 1 := by
      have := he j0
      rw [← hj0, ← EReal.coe_sub, sub_self] at this
      have h : ((Real.exp 0 : ℝ) : EReal) = (e j0 : EReal) := this
      rw [Real.exp_zero] at h
      exact (EReal.coe_eq_coe_iff.mp h).symm
    have ht : 1 ≤ ∑ j, e j := by
      rw [← h1]
      exact Finset.single_le_sum (fun j _ => he0 j) (Finset.mem_univ j0)
    have hp : 0 < ∑ j, e j := lt_of_lt_of_le one_pos ht
    simp only [he, sum_coe]
    revert hp
    generalize (∑ j, e j) = T
    intro hp
    have hl : Ideal.log (T : EReal) = (Real.log T : EReal) := by
      show (if T ≤ 0 then ⊥ else (Real.log T : EReal)) = _
      rw [if_neg (not_le.mpr hp)]
    simp only [hl, hel, Real.exp_neg, Real.exp_log hp]
    have hd : Ideal.div vs (T : EReal) = vs * ((T⁻¹ : ℝ) : EReal) := by
      unfold Ideal.div
      rw [if_neg (by exact_mod_cast hp.ne'), EReal.coe_inv]
    have hv : ∀ j, V j * ((e j * T⁻¹ : ℝ) : EReal) = ((e j : EReal) * V j) * ((T⁻¹ : ℝ) : EReal) := fun j => by
      rw [EReal.coe_mul, ← mul_assoc, mul_comm (V j)]
    simp only [hd, hv]
    rw [← sum_mul_coe _ _ (inv_nonneg.mpr hp.le), mul_assoc, mul_comm vs]

/-- The same with the kernel's scores, which carry the change of base. -/
theorem softmax2_eq {n : Nat} (hn : 0 < n) (t s V : Fin n → EReal) (vs : EReal)
    (h : ∀ j, t j = s j * (((Real.log 2)⁻¹ : ℝ) : EReal)) :
    (∑ j, Ideal.exp2 (t j - Finset.univ.sup t) * V j) * Ideal.div vs (∑ j, Ideal.exp2 (t j - Finset.univ.sup t))
      = (∑ j, V j * Ideal.exp ((s j - Finset.univ.sup s) - Ideal.log (∑ j, Ideal.exp (s j - Finset.univ.sup s)))) * vs := by
  have hp : 0 < (Real.log 2)⁻¹ := inv_pos.mpr (Real.log_pos (by norm_num))
  have ht : t = fun j => s j * (((Real.log 2)⁻¹ : ℝ) : EReal) := funext h
  have he : ∀ j, Ideal.exp2 (t j - Finset.univ.sup t) = Ideal.exp (s j - Finset.univ.sup s) := fun j => by
    rw [ht, sup_mul_coe s _ hp, ← sub_mul_coe _ _ _ hp.le, exp2_scaled]
  simp only [he]
  exact softmax_eq hn s V vs

end Cert.Proof.Soft

end
-- ==== Proof.Target.lean ====
/- What both programs compute, as functions of their arguments. -/
module

public import proofs.«01_k».proof.Proof.Rows
public import proofs.«01_k».proof.Proof.Softmax

@[expose] public section

noncomputable section

namespace Cert.Proof.Kern

open Idealize.ShloMosaic Idealize.ShloMosaic.TcCoe Cert.KernelIdeal
open scoped BigOperators

/-- The query row of batch `b`, position `i`, head `h`, with its bias added. -/
def brow (Q : S16x1536x4x64.Idx → EReal) (B : S4x64.Idx → EReal) (b : Fin 16) (i : Fin 1536) (h : Fin 4) : Fin 64 → EReal :=
  fun d => Q (ix4 b i h d) + B (ix2 h d)

/-- The position row that query `i` meets at key `j`. -/
def shifted (i j : Fin 1536) : Fin 3071 := ⟨1535 - i.1 + j.1, by omega⟩

/-- The kernel's score of query `i` and key `j`, in base two. -/
def scoreTwo (κ : EReal) (Q K : S16x1536x4x64.Idx → EReal) (P : S3071x4x64.Idx → EReal) (Bu Bv : S4x64.Idx → EReal) (ks : S16x4.Idx → EReal) (ps : S4.Idx → EReal)
    (b : Fin 16) (h : Fin 4) (i j : Fin 1536) : EReal :=
  (∑ d : Fin 64, rowCode (brow Q Bu b i h) d * K (ix4 b j h d)) * (rowScale (brow Q Bu b i h) * ks (ix2 b h) * κ)
    + (∑ d : Fin 64, rowCode (brow Q Bv b i h) d * P (ix3 (shifted i j) h d)) * (rowScale (brow Q Bv b i h) * ps (ix1 h) * κ)

/-- The reference's score of query `i` and key `j`. -/
def scoreNat (Q K : S16x1536x4x64.Idx → EReal) (P : S3071x4x64.Idx → EReal) (Bu Bv : S4x64.Idx → EReal) (ks : S16x4.Idx → EReal) (ps : S4.Idx → EReal)
    (b : Fin 16) (h : Fin 4) (i j : Fin 1536) : EReal :=
  ((∑ d : Fin 64, rowCode (brow Q Bu b i h) d * K (ix4 b j h d)) * rowScale (brow Q Bu b i h) * ks (ix2 b h)
    + (∑ d : Fin 64, P (ix3 (shifted i j) h d) * rowCode (brow Q Bv b i h) d) * rowScale (brow Q Bv b i h) * ps (ix1 h))
    * Ideal.ofBits FTy.f32 0x3E000000#32

theorem eighth_bits : Ideal.ofBits FTy.f32 0x3E000000#32 = (((8 : ℝ)⁻¹ : ℝ) : EReal) := by
  simp [Ideal.ofBits, Ideal.ieee]
  rw [← EReal.coe_mul]
  norm_num

/-- The base-two score is the natural score over the logarithm of two. -/
theorem scoreTwo_eq (κ : EReal) (hκ : κ = (((8 * Real.log 2)⁻¹ : ℝ) : EReal)) (Q K : S16x1536x4x64.Idx → EReal) (P : S3071x4x64.Idx → EReal) (Bu Bv : S4x64.Idx → EReal)
    (ks : S16x4.Idx → EReal) (ps : S4.Idx → EReal) (b : Fin 16) (h : Fin 4) (i j : Fin 1536) :
    scoreTwo κ Q K P Bu Bv ks ps b h i j = scoreNat Q K P Bu Bv ks ps b h i j * (((Real.log 2)⁻¹ : ℝ) : EReal) := by
  have hl : 0 ≤ (8 * Real.log 2)⁻¹ := inv_nonneg.mpr (mul_nonneg (by norm_num) (Real.log_nonneg (by norm_num)))
  have hc : (((8 : ℝ)⁻¹ : ℝ) : EReal) * (((Real.log 2)⁻¹ : ℝ) : EReal) = (((8 * Real.log 2)⁻¹ : ℝ) : EReal) := by
    rw [← EReal.coe_mul, mul_inv]
  unfold scoreTwo scoreNat
  rw [eighth_bits, mul_assoc (_ + _), hc, Soft.add_mul_coe _ _ _ hl, hκ]
  have e : ∀ x y z w : EReal, x * (y * z * w) = x * y * z * w := fun x y z w => by rw [← mul_assoc, ← mul_assoc]
  rw [e, e]
  refine congrArg₂ (fun p q : EReal => p + q) rfl (congrArg (fun p : EReal => p * _ * _ * _) ?_)
  exact Finset.sum_congr rfl fun d _ => mul_comm _ _

/-- The reference's attention at a place, for the scores `s`. -/
def attendNat (s U : Fin 1536 → EReal) (v : EReal) : EReal :=
  (∑ j, U j * Ideal.exp ((s j - Finset.univ.sup s) - Ideal.log (∑ j, Ideal.exp (s j - Finset.univ.sup s)))) * v

/-- Codes at every place, from the arguments. -/
def codes (Q : S16x1536x4x64.Idx → EReal) (B : S4x64.Idx → EReal) : S16x1536x4x64.Idx → EReal := fun w => rowCode (brow Q B (w 0) (w 1) (w 2)) (w 3)

/-- Scales at every place, from the arguments. -/
def scales (Q : S16x1536x4x64.Idx → EReal) (B : S4x64.Idx → EReal) : S16x1536x4.Idx → EReal := fun w => rowScale (brow Q B (w 0) (w 1) (w 2))

/-- The attention result of batch `b`, position `i`, head `h`, place `d`. -/
def result (Q K : S16x1536x4x64.Idx → EReal) (ks : S16x4.Idx → EReal) (X : S16x1536x4x64.Idx → EReal) (vs : S16x4.Idx → EReal)
    (P : S3071x4x64.Idx → EReal) (ps : S4.Idx → EReal) (Bu Bv : S4x64.Idx → EReal) (b : Fin 16) (i : Fin 1536) (h : Fin 4) (d : Fin 64) : EReal :=
  attendNat (scoreNat Q K P Bu Bv ks ps b h i) (fun j => X (ix4 b j h d)) (vs (ix2 b h))

/-- The attention results, the heads laid side by side. -/
def results (Q K : S16x1536x4x64.Idx → EReal) (ks : S16x4.Idx → EReal) (X : S16x1536x4x64.Idx → EReal) (vs : S16x4.Idx → EReal)
    (P : S3071x4x64.Idx → EReal) (ps : S4.Idx → EReal) (Bu Bv : S4x64.Idx → EReal) : S16x1536x256.Idx → EReal :=
  fun w => result Q K ks X vs P ps Bu Bv (w 0) (w 1) ⟨(w 2).1 / 64, by have : (w 2).1 < 256 := (w 2).2; omega⟩ ⟨(w 2).1 % 64, by omega⟩

/-- The greatest of the entries, as the host folds it, is the supremum. -/
theorem fold_sup (s : Fin 1536 → EReal) :
    max (Ideal.ofBits FTy.f32 4286578688#32) (Finset.fold max (Ideal.ofBits FTy.f32 4286578688#32) s Finset.univ) = Finset.univ.sup s := by
  rw [bot_bits, max_eq_right bot_le]
  rfl

end Cert.Proof.Kern

end
-- ==== Proof.KernelRun.lean ====
/- The kernel's five results as functions of its arguments. -/
module

public import proofs.«01_k».proof.Proof.KernelTail
public import proofs.«01_k».proof.Proof.Target
public import Idealize.ShloMosaic.Lib.Claim

@[expose] public section

set_option maxRecDepth 16384

noncomputable section

namespace Cert.Proof.Kern

open Idealize.ShloMosaic Idealize.ShloMosaic.TcCoe Idealize.SL.Sem Cert.KernelIdeal Cert.KernelIdeal.Gen
open scoped BigOperators

variable (m : (ℓ : Loc nD τ sig) → Buf (Elt Ideal) ℓ) (ρ : Dev nD → PrngReg) (c : Dev nD)

theorem V_eq (b : Ref sig .tc) : V m c b = StableHlo.after hostOps0 (fun b => m (c, b)) (Proc.devRef .tc b) := by
  show StableHlo.after (List.flatten [hostOps0]) (fun b => m (c, b)) (Proc.devRef .tc b) = _
  rw [List.flatten_cons, List.flatten_nil, List.append_nil]

section

variable (Q : S16x1536x4x64.Idx → EReal) (hQ : m ((c : Thread nD τ).loc main_arg0) = Q)
  (K : S16x1536x4x64.Idx → EReal) (hK : m ((c : Thread nD τ).loc main_arg1) = K)
  (ks : S16x4.Idx → EReal) (hks : m ((c : Thread nD τ).loc main_arg2) = ks)
  (X : S16x1536x4x64.Idx → EReal) (hX : m ((c : Thread nD τ).loc main_arg3) = X)
  (vs : S16x4.Idx → EReal) (hvs : m ((c : Thread nD τ).loc main_arg4) = vs)
  (P : S3071x4x64.Idx → EReal) (hP : m ((c : Thread nD τ).loc main_arg5) = P)
  (ps : S4.Idx → EReal) (hps : m ((c : Thread nD τ).loc main_arg6) = ps)
  (Bu Bv : S4x64.Idx → EReal) (hu : m ((c : Thread nD τ).loc main_arg7) = Bu) (hv : m ((c : Thread nD τ).loc main_arg8) = Bv)

include hQ hu in
theorem rowU (b : Fin 16) (h : Fin 4) (i : Fin 1536) : biasedRow (V m c main_v0) (V m c main_v6) b h i = brow Q Bu b i h := by
  funext d
  exact congrArg₂ (fun p q : EReal => p + q) ((congrFun (V_eq m c main_v0) _).trans (host_v0 _ Q hQ b h i d))
    ((congrFun (V_eq m c main_v6) _).trans (host_v6 _ Bu hu h d))

include hQ hv in
theorem rowV (b : Fin 16) (h : Fin 4) (i : Fin 1536) : biasedRow (V m c main_v0) (V m c main_v7) b h i = brow Q Bv b i h := by
  funext d
  exact congrArg₂ (fun p q : EReal => p + q) ((congrFun (V_eq m c main_v0) _).trans (host_v0 _ Q hQ b h i d))
    ((congrFun (V_eq m c main_v7) _).trans (host_v7 _ Bv hv h d))

include hQ hK hks hP hps hu hv in
theorem score2_eq (b : Fin 16) (h : Fin 4) (i : Fin 1536) :
    score2 (V m c main_v0) (V m c main_v1) (V m c main_v5) (V m c main_v6) (V m c main_v7) (V m c main_arg2) (V m c main_v8) b h i
      = scoreTwo scaleConst Q K P Bu Bv ks ps b h i := by
  funext j
  unfold score2 scoreTwo
  rw [rowU m c Q hQ Bu hu, rowV m c Q hQ Bv hv]
  exact congrArg₂ (fun p q : EReal => p + q)
    (sum_eq _ _ _ _ _ _ _ (fun d => (congrFun (V_eq m c main_v1) _).trans (host_v1 _ K hK b h j d))
      ((congrFun (V_main_arg2 m c) _).trans (congrFun hks _)))
    (sum_eq _ _ _ _ _ _ _ (fun d => (congrFun (V_eq m c main_v5) _).trans (host_v5 _ P hP h (place i j) (shifted i j) rfl d))
      ((congrFun (V_eq m c main_v8) _).trans (host_v8 _ ps hps h)))

/-- The memory that the last host steps start from. -/
abbrev Wt : (b : DevRef τ sig) → b.ty.Contents (Elt Ideal) :=
  Pipeline.withArrays (cfgs 0).spec c (V0 m c) fun w => (dats m 0 c).arrAt w (cfgs 0).N

theorem Wt_arr (w : Fin cfg0.W) : Wt m c (Proc.devRef .tc (Pipeline.arrRef spec0 w)) = (dats m 0 c).arrAt w cfg0.N :=
  Pipeline.withArrays_arr spec0 (by decide) c (V0 m c) _ w

theorem tail_eq (b : Ref sig .tc) : Pipeline.afterTail₀ cfgs (dats m) 0 (V0 m) [hostOps1] c b = StableHlo.after hostOps1 (Wt m c) (Proc.devRef .tc b) := by
  show StableHlo.after (List.flatten [hostOps1]) (Wt m c) (Proc.devRef .tc b) = _
  rw [List.flatten_cons, List.flatten_nil, List.append_nil]

include hQ hu in
theorem kernel_v12 : Pipeline.afterTail₀ cfgs (dats m) 0 (V0 m) [hostOps1] c main_v12 = codes Q Bu := by
  rw [tail_eq]
  funext y
  have ey : y = ix4 (y 0) (y 1) (y 2) (y 3) := by idx_ext
  refine (congrArg (StableHlo.after hostOps1 (Wt m c) (Proc.devRef .tc main_v12)) ey).trans ?_
  refine (tail_v12 (Wt m c) _ ((Wt_arr m c 10).trans (arr10 m c _ rfl _ rfl)) (y 0) (y 1) (y 2) (y 3)).trans ?_
  exact congrArg (fun z => rowCode z (y 3)) (rowU m c Q hQ Bu hu (y 0) (y 2) (y 1))

include hQ hv in
theorem kernel_v15 : Pipeline.afterTail₀ cfgs (dats m) 0 (V0 m) [hostOps1] c main_v15 = codes Q Bv := by
  rw [tail_eq]
  funext y
  have ey : y = ix4 (y 0) (y 1) (y 2) (y 3) := by idx_ext
  refine (congrArg (StableHlo.after hostOps1 (Wt m c) (Proc.devRef .tc main_v15)) ey).trans ?_
  refine (tail_v15 (Wt m c) _ ((Wt_arr m c 12).trans (arr12 m c _ rfl _ rfl)) (y 0) (y 1) (y 2) (y 3)).trans ?_
  exact congrArg (fun z => rowCode z (y 3)) (rowV m c Q hQ Bv hv (y 0) (y 2) (y 1))

include hQ hu in
theorem kernel_v14 : Pipeline.afterTail₀ cfgs (dats m) 0 (V0 m) [hostOps1] c main_v14 = scales Q Bu := by
  rw [tail_eq]
  funext y
  have ey : y = ix3 (y 0) (y 1) (y 2) := by idx_ext
  refine (congrArg (StableHlo.after hostOps1 (Wt m c) (Proc.devRef .tc main_v14)) ey).trans ?_
  refine (tail_v14 (Wt m c) _ ((Wt_arr m c 11).trans (arr11 m c _ rfl _ rfl)) (y 0) (y 1) (y 2)).trans ?_
  exact congrArg rowScale (rowU m c Q hQ Bu hu (y 0) (y 2) (y 1))

include hQ hv in
theorem kernel_v17 : Pipeline.afterTail₀ cfgs (dats m) 0 (V0 m) [hostOps1] c main_v17 = scales Q Bv := by
  rw [tail_eq]
  funext y
  have ey : y = ix3 (y 0) (y 1) (y 2) := by idx_ext
  refine (congrArg (StableHlo.after hostOps1 (Wt m c) (Proc.devRef .tc main_v17)) ey).trans ?_
  refine (tail_v17 (Wt m c) _ ((Wt_arr m c 13).trans (arr13 m c _ rfl _ rfl)) (y 0) (y 1) (y 2)).trans ?_
  exact congrArg rowScale (rowV m c Q hQ Bv hv (y 0) (y 2) (y 1))

include hQ hK hks hX hvs hP hps hu hv in
theorem attend_place (b : Fin 16) (i : Fin 1536) (h : Fin 4) (d : Fin 64) :
    attendBy (score2 (V m c main_v0) (V m c main_v1) (V m c main_v5) (V m c main_v6) (V m c main_v7) (V m c main_arg2) (V m c main_v8) b h i)
      (fun j => V m c main_v2 (ix4 b h j d)) (V m c main_arg4 (ix2 b h)) = result Q K ks X vs P ps Bu Bv b i h d := by
  rw [score2_eq m c Q hQ K hK ks hks P hP ps hps Bu Bv hu hv]
  have hU : (fun j => V m c main_v2 (ix4 b h j d)) = fun j => X (ix4 b j h d) :=
    funext fun j => (congrFun (V_eq m c main_v2) _).trans (host_v2 _ X hX b h j d)
  have hs : V m c main_arg4 (ix2 b h) = vs (ix2 b h) := (congrFun (V_main_arg4 m c) _).trans (congrFun hvs _)
  rw [hU, hs]
  exact Soft.softmax2_eq (by decide) _ _ _ _ fun j => scoreTwo_eq scaleConst scaleConst_eq Q K P Bu Bv ks ps b h i j

include hQ hK hks hX hvs hP hps hu hv in
theorem kernel_v11 : Pipeline.afterTail₀ cfgs (dats m) 0 (V0 m) [hostOps1] c main_v11 = results Q K ks X vs P ps Bu Bv := by
  rw [tail_eq]
  funext y
  have h2 : (y 2).1 < 256 := (y 2).2
  have ey : y = ix3 (y 0) (y 1) (y 2) := by idx_ext
  refine (congrArg (StableHlo.after hostOps1 (Wt m c) (Proc.devRef .tc main_v11)) ey).trans ?_
  refine (tail_v11 (Wt m c) _ ((Wt_arr m c 9).trans (arr9 m c _ _ _ rfl rfl rfl _ rfl _ _ rfl rfl _ _ rfl rfl _ rfl)) (y 0) (y 1) (y 2)
    ⟨(y 2).1 / 64, by omega⟩ ⟨(y 2).1 % 64, by omega⟩ rfl rfl).trans ?_
  exact attend_place m c Q hQ K hK ks hks X hX vs hvs P hP ps hps Bu Bv hu hv (y 0) (y 1) ⟨(y 2).1 / 64, by omega⟩ ⟨(y 2).1 % 64, by omega⟩

end

/-- The kernel run from arrays `Q` to `Bv` ends with the five results, its arguments unchanged. -/
theorem run_results : θ_run defs (onTc (τ := τ) (main (F := Ideal))) ⟨m, fun _ => 0, ρ⟩ (fun r => ∀ c : Dev nD,
      r.2.mem ((c.tc : Thread nD τ).loc main_v11) = results (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v12) = codes (m ((c.tc : Thread nD τ).loc main_arg0)) (m ((c.tc : Thread nD τ).loc main_arg7))
      ∧ r.2.mem ((c.tc : Thread nD τ).loc main_v14) = scales (m ((c.tc : Thread nD τ).loc main_arg0)) (m ((c.tc : Thread nD τ).loc main_arg7))
      ∧ r.2.mem ((c.tc : Thread nD τ).loc main_v15) = codes (m ((c.tc : Thread nD τ).loc main_arg0)) (m ((c.tc : Thread nD τ).loc main_arg8))
      ∧ r.2.mem ((c.tc : Thread nD τ).loc main_v17) = scales (m ((c.tc : Thread nD τ).loc main_arg0)) (m ((c.tc : Thread nD τ).loc main_arg8))) :=
  (θ_run defs _ _).mono (fun r h c => ⟨(h.rest_eq c main_v11 (by decide)).trans (kernel_v11 m c _ rfl _ rfl _ rfl _ rfl _ rfl _ rfl _ rfl _ _ rfl rfl),
    (h.rest_eq c main_v12 (by decide)).trans (kernel_v12 m c _ rfl _ rfl),
    (h.rest_eq c main_v14 (by decide)).trans (kernel_v14 m c _ rfl _ rfl),
    (h.rest_eq c main_v15 (by decide)).trans (kernel_v15 m c _ rfl _ rfl),
    (h.rest_eq c main_v17 (by decide)).trans (kernel_v17 m c _ rfl _ rfl)⟩) (run_main m ρ)

end Cert.Proof.Kern

end
-- ==== Proof.RefTail.lean ====
/- The reference's attention after its casts: each host operation read at an index. -/
module

public import proofs.«01_k».proof.Proof.Gen.ReferenceIdeal.Frame
public import Idealize.ShloMosaic.Lib.Pointwise
public import Idealize.ShloMosaic.Lib.StableHlo.ReadAt
public import Idealize.ShloMosaic.Lib.ValueIdxCore

@[expose] public section

noncomputable section

namespace Cert.Proof.Ref

open Idealize.ShloMosaic Idealize.ShloMosaic.TcCoe Cert.ReferenceIdeal Cert.ReferenceIdeal.Gen
open scoped BigOperators

theorem gather_apply {α : Type} (x : S16x4x1536x3071.Idx → α) (idx : IVec S1536x1536x1 32) (b : Fin 16) (h : Fin 4) (i j : Fin 1536)
    (n : Fin 3071) (hidx : (idx (ix3 i j (0 : Fin 1))).toInt.toNat = n.1) :
    Host.gather gather_S16x4x1536x3071_S1536x1536x1_S16x4x1536x1536_01_3_2_0_3_2_16411 x idx (ix4 b h i j) = x (ix4 b h i n) := by
  unfold Host.gather
  congr 1
  have hsi : ∀ p, gather_S16x4x1536x3071_S1536x1536x1_S16x4x1536x1536_01_3_2_0_3_2_16411.siIdx (ix4 b h i j) p = ix3 i j (0 : Fin 1) := by
    intro p
    funext a; refine Fin.ext ?_
    match a with
    | ⟨0, _⟩ => rfl
    | ⟨1, _⟩ => rfl
    | ⟨2, _⟩ => have := p.isLt; exact Nat.lt_one_iff.mp this
  have hB : ∀ k : Fin 4, k ≠ 2 → k ∉ (gather_S16x4x1536x3071_S1536x1536x1_S16x4x1536x1536_01_3_2_0_3_2_16411).operandBatchingDims := by decide
  have hO : ∀ k : Fin 4, (k = 2 ∨ k = 3) → k ∉ (gather_S16x4x1536x3071_S1536x1536x1_S16x4x1536x1536_01_3_2_0_3_2_16411).sKept := by decide
  funext a
  refine Fin.ext ?_
  show GatherDims.start _ (ix4 b h i j) idx a + GatherDims.batchCoord _ (ix4 b h i j) a + GatherDims.offCoord _ (ix4 b h i j) a = _
  match a with
  | ⟨0, hk⟩ =>
    have e1 : GatherDims.start gather_S16x4x1536x3071_S1536x1536x1_S16x4x1536x1536_01_3_2_0_3_2_16411 (ix4 b h i j) idx ⟨0, hk⟩ = 0 := by
      unfold GatherDims.start
      exact dif_neg (by decide +revert)
    have e2 : GatherDims.batchCoord gather_S16x4x1536x3071_S1536x1536x1_S16x4x1536x1536_01_3_2_0_3_2_16411 (ix4 b h i j) ⟨0, hk⟩ = 0 := GatherDims.batchCoord_eq_zero _ _ _ (hB _ (fun e => absurd (congrArg Fin.val e) (by simp)))
    have e3 : GatherDims.offCoord gather_S16x4x1536x3071_S1536x1536x1_S16x4x1536x1536_01_3_2_0_3_2_16411 (ix4 b h i j) ⟨0, hk⟩ = b.1 := rfl
    rw [e1, e2, e3]
    show 0 + 0 + b.1 = b.1
    omega
  | ⟨1, hk⟩ =>
    have e1 : GatherDims.start gather_S16x4x1536x3071_S1536x1536x1_S16x4x1536x1536_01_3_2_0_3_2_16411 (ix4 b h i j) idx ⟨1, hk⟩ = 0 := by
      unfold GatherDims.start
      exact dif_neg (by decide +revert)
    have e2 : GatherDims.batchCoord gather_S16x4x1536x3071_S1536x1536x1_S16x4x1536x1536_01_3_2_0_3_2_16411 (ix4 b h i j) ⟨1, hk⟩ = 0 := GatherDims.batchCoord_eq_zero _ _ _ (hB _ (fun e => absurd (congrArg Fin.val e) (by simp)))
    have e3 : GatherDims.offCoord gather_S16x4x1536x3071_S1536x1536x1_S16x4x1536x1536_01_3_2_0_3_2_16411 (ix4 b h i j) ⟨1, hk⟩ = h.1 := rfl
    rw [e1, e2, e3]
    show 0 + 0 + h.1 = h.1
    omega
  | ⟨2, hk⟩ =>
    have e1 : GatherDims.start gather_S16x4x1536x3071_S1536x1536x1_S16x4x1536x1536_01_3_2_0_3_2_16411 (ix4 b h i j) idx ⟨2, hk⟩ = 0 := by
      unfold GatherDims.start
      exact dif_neg (by decide +revert)
    have e2 : GatherDims.batchCoord gather_S16x4x1536x3071_S1536x1536x1_S16x4x1536x1536_01_3_2_0_3_2_16411 (ix4 b h i j) ⟨2, hk⟩ = i.1 := rfl
    have e3 : GatherDims.offCoord gather_S16x4x1536x3071_S1536x1536x1_S16x4x1536x1536_01_3_2_0_3_2_16411 (ix4 b h i j) ⟨2, hk⟩ = 0 := GatherDims.offCoord_eq_zero _ _ _ (hO _ (by first | exact Or.inl rfl | exact Or.inr rfl))
    rw [e1, e2, e3]
    show 0 + i.1 + 0 = i.1
    omega
  | ⟨3, hk⟩ =>
    have e1 : GatherDims.start gather_S16x4x1536x3071_S1536x1536x1_S16x4x1536x1536_01_3_2_0_3_2_16411 (ix4 b h i j) idx ⟨3, hk⟩ = n.1 := by
      unfold GatherDims.start
      refine (dif_pos (by decide +revert)).trans ?_
      rw [hsi, hidx]
      have := n.isLt
      show min n.1 (3071 - 1) = n.1
      omega
    have e2 : GatherDims.batchCoord gather_S16x4x1536x3071_S1536x1536x1_S16x4x1536x1536_01_3_2_0_3_2_16411 (ix4 b h i j) ⟨3, hk⟩ = 0 := GatherDims.batchCoord_eq_zero _ _ _ (hB _ (fun e => absurd (congrArg Fin.val e) (by simp)))
    have e3 : GatherDims.offCoord gather_S16x4x1536x3071_S1536x1536x1_S16x4x1536x1536_01_3_2_0_3_2_16411 (ix4 b h i j) ⟨3, hk⟩ = 0 := GatherDims.offCoord_eq_zero _ _ _ (hO _ (by first | exact Or.inl rfl | exact Or.inr rfl))
    rw [e1, e2, e3]
    show n.1 + 0 + 0 = n.1
    omega

variable (W : (b : DevRef τ sig) → b.ty.Contents (Elt Ideal))

/-- The content products with both scales. -/
theorem tail_v71 (Cu Kc : S16x1536x4x64.Idx → EReal) (s : S16x1536x4.Idx → EReal) (ks : S16x4.Idx → EReal)
    (h1 : W (Proc.devRef .tc main_v63_2) = Cu) (h2 : W (Proc.devRef .tc main_v63_4) = Kc) (h3 : W (Proc.devRef .tc main_v31) = s)
    (h4 : W (Proc.devRef .tc main_arg2) = ks) (b : Fin 16) (h : Fin 4) (i j : Fin 1536) :
    StableHlo.after hostOps1 W (Proc.devRef .tc main_v71) (ix4 b h i j)
      = (∑ d : Fin 64, Cu (ix4 b i h d) * Kc (ix4 b j h d)) * s (ix3 b i h) * ks (ix2 b h) := by
  subst h1 h2 h3 h4
  after_reads_at

/-- The position products. -/
theorem tail_v73 (P : S3071x4x64.Idx → EReal) (Cv : S16x1536x4x64.Idx → EReal)
    (h1 : W (Proc.devRef .tc main_v63_6) = P) (h2 : W (Proc.devRef .tc main_v63_3) = Cv) (b : Fin 16) (h : Fin 4) (i : Fin 1536) (n : Fin 3071) :
    StableHlo.after hostOps1 W (Proc.devRef .tc main_v73) (ix4 b h i n) = ∑ d : Fin 64, P (ix3 n h d) * Cv (ix4 b i h d) := by
  subst h1 h2
  after_reads_at

/-- The relative position of a query and a key. -/
theorem tail_v82 (i j : Fin 1536) :
    StableHlo.after hostOps1 W (Proc.devRef .tc main_v82) (ix4 (0 : Fin 1) (0 : Fin 1) i j)
      = IntOp.addi (IntOp.subi (1535#32) (BitVec.ofNat 32 i.1)) (BitVec.ofNat 32 j.1) := by
  after_reads_at

/-- The words of the gather's index. -/
def wrap (I : IVec S1x1x1536x1536 32) : IVec S1536x1536x1 32 :=
  shapeCast S1536x1536x1 (select (cmpi .slt I (broadcastInDim S1x1x1536x1536 ![] bcast_S_S1x1x1536x1536 (constantI S_ 32 0#32)))
    (addi I (broadcastInDim S1x1x1536x1536 ![] bcast_S_S1x1x1536x1536 (constantI S_ 32 3071#32))) I) shapeCasts_S1x1x1536x1536_S1536x1536x1

theorem tail_v83 (P : FVec Ideal S16x4x1536x3071 .f32) (I : IVec S1x1x1536x1536 32) (h1 : W (Proc.devRef .tc main_v73) = P)
    (h2 : W (Proc.devRef .tc main_v82) = I) :
    StableHlo.after hostOps1_1 W (Proc.devRef .tc main_v83)
      = Host.gather gather_S16x4x1536x3071_S1536x1536x1_S16x4x1536x1536_01_3_2_0_3_2_16411 P (wrap I) := by
  subst h1 h2
  after_reads_simp
  rfl

/-- The index that the gather reads for a query and a key. -/
theorem wrap_at (I : IVec S1x1x1536x1536 32) (i j : Fin 1536)
    (hI : I (ix4 (0 : Fin 1) (0 : Fin 1) i j) = IntOp.addi (IntOp.subi (1535#32) (BitVec.ofNat 32 i.1)) (BitVec.ofNat 32 j.1)) :
    (wrap I (ix3 i j (0 : Fin 1))).toInt.toNat = 1535 - i.1 + j.1 := by
  have hi := i.isLt
  have hj := j.isLt
  have hw : I (ix4 (0 : Fin 1) (0 : Fin 1) i j) = BitVec.ofNat 32 (1535 - i.1 + j.1) := by
    rw [hI]
    refine BitVec.eq_of_toNat_eq ?_
    show ((1535#32 - BitVec.ofNat 32 i.1) + BitVec.ofNat 32 j.1 : BitVec 32).toNat = _
    simp only [BitVec.toNat_add, BitVec.toNat_sub, BitVec.toNat_ofNat]
    omega
  have hn : (BitVec.ofNat 32 (1535 - i.1 + j.1)).toNat = 1535 - i.1 + j.1 := by
    rw [BitVec.toNat_ofNat]
    omega
  have ht : (BitVec.ofNat 32 (1535 - i.1 + j.1)).toInt = ((1535 - i.1 + j.1 : Nat) : Int) := by
    rw [BitVec.toInt_eq_toNat_of_lt (by rw [hn]; omega), hn]
  have e : wrap I (ix3 i j (0 : Fin 1)) = Scalar.select (IntOp.cmpi CmpIPredicate.slt (I (ix4 0 0 i j)) 0#32) (IntOp.addi (I (ix4 0 0 i j)) 3071#32)
      (I (ix4 0 0 i j)) := by
    pointwise [wrap]
  have hc : IntOp.cmpi CmpIPredicate.slt (BitVec.ofNat 32 (1535 - i.1 + j.1)) 0#32 = 0#1 := by
    show BitVec.ofBool (BitVec.slt _ _) = _
    have : BitVec.slt (BitVec.ofNat 32 (1535 - i.1 + j.1)) 0#32 = false := by
      unfold BitVec.slt
      rw [ht]
      exact decide_eq_false (by simp only [BitVec.toInt_zero]; omega)
    rw [this]
    rfl
  rw [e, hw, hc]
  show (BitVec.ofNat 32 (1535 - i.1 + j.1)).toInt.toNat = _
  rw [ht]
  rfl

/-- The scores. -/
theorem tail_v93 (A B : S16x4x1536x1536.Idx → EReal) (s : S16x1536x4.Idx → EReal) (ps : S4.Idx → EReal)
    (h1 : W (Proc.devRef .tc main_v71) = A) (h2 : W (Proc.devRef .tc main_v83) = B) (h3 : W (Proc.devRef .tc main_v62) = s)
    (h4 : W (Proc.devRef .tc main_arg6) = ps) (b : Fin 16) (h : Fin 4) (i j : Fin 1536) :
    StableHlo.after hostOps1_2 W (Proc.devRef .tc main_v93) (ix4 b h i j)
      = (A (ix4 b h i j) + B (ix4 b h i j) * s (ix3 b i h) * ps (ix1 h)) * Ideal.ofBits .f32 0x3E000000#32 := by
  subst h1 h2 h3 h4
  after_reads_at

/-- The greatest score of each query. -/
def topRow (X : FVec Ideal S16x4x1536x1536 .f32) : FVec Ideal S16x4x1536 .f32 :=
  Host.reduce FloatOps.maximumf X (constant S_ .f32 0xFF800000#32) reducesTo_S16x4x1536x1536_S16x4x1536_d3 h_S_

theorem topRow_at (X : S16x4x1536x1536.Idx → EReal) (b : Fin 16) (h : Fin 4) (i : Fin 1536) :
    topRow X (ix3 b h i) = Finset.fold max (Ideal.ofBits FTy.f32 4286578688#32) (fun x => X (ix4 b h i x)) Finset.univ := by
  pointwise [topRow]

/-- The scores less the greatest of their row. -/
def less (X : FVec Ideal S16x4x1536x1536 .f32) (M : FVec Ideal S16x4x1536 .f32) : FVec Ideal S16x4x1536x1536 .f32 :=
  subf X (broadcastInDim S16x4x1536x1536 ![0, 1, 2, 3] bcast_S16x4x1536x1_S16x4x1536x1536_0_1_2_3 (broadcastInDim S16x4x1536x1 ![0, 1, 2] bcast_S16x4x1536_S16x4x1536x1_0_1_2
    (maximumf (broadcastInDim S16x4x1536 ![] bcast_S_S16x4x1536 (constant S_ .f32 0xFF800000#32)) M)))

theorem less_at (X : S16x4x1536x1536.Idx → EReal) (M : S16x4x1536.Idx → EReal) (b : Fin 16) (h : Fin 4) (i j : Fin 1536) :
    less X M (ix4 b h i j) = X (ix4 b h i j) - max (Ideal.ofBits FTy.f32 4286578688#32) (M (ix3 b h i)) := by
  pointwise [less]

theorem tail_v5 (X : FVec Ideal S16x4x1536x1536 .f32) (hX : W (Proc.devRef .tc main_v93) = X) :
    StableHlo.after ((hostOps1_3 (F := Ideal)).take 8) W (Proc.devRef .tc main_call1_v5) = less X (topRow X) := by
  subst hX
  unfold hostOps1_3
  simp only [List.take]
  after_reads_simp
  simp -implicitDefEqProofs only [StableHlo.TRef.toBuf, StableHlo.TRef.ofBuf, cast_cast, cast_eq]
  rfl

theorem tail_v94 (X : S16x4x1536x1536.Idx → EReal) (hX : W (Proc.devRef .tc main_call1_v5) = X) (b : Fin 16) (h : Fin 4) (i j : Fin 1536) :
    StableHlo.after ((hostOps1_3 (F := Ideal)).drop 8) W (Proc.devRef .tc main_v94) (ix4 b h i j)
      = X (ix4 b h i j) - Ideal.log (∑ x, Ideal.exp (X (ix4 b h i x))) := by
  unfold hostOps1_3
  simp only [List.drop]
  after_reads_at
  simp only [hX]

theorem tail_v103 (X : S16x4x1536x1536.Idx → EReal) (hX : W (Proc.devRef .tc main_v94) = X) (VV : S16x1536x4x64.Idx → EReal) (hV : W (Proc.devRef .tc main_v63_5) = VV) (Y : S16x4.Idx → EReal) (hY : W (Proc.devRef .tc main_arg4) = Y) (b : Fin 16) (i : Fin 1536) (l : Fin 256) :
    StableHlo.after hostOps1_4 W (Proc.devRef .tc main_v103) (ix3 b i l)
      = (∑ x, (VV (ix4 b x ⟨l.1 / 64, by have := l.isLt; omega⟩ ⟨l.1 % 64, by omega⟩))
          * Ideal.exp (X (ix4 b ⟨l.1 / 64, by have := l.isLt; omega⟩ i x)))
        * Y (ix2 b ⟨l.1 / 64, by have := l.isLt; omega⟩) := by
  unfold hostOps1_4
  after_reads_at
  simp only [hX, hV, hY]

/-- The score of a query and a key. -/
def score (Cu Kc : S16x1536x4x64.Idx → EReal) (su : S16x1536x4.Idx → EReal) (ks : S16x4.Idx → EReal)
    (P : S3071x4x64.Idx → EReal) (Cv : S16x1536x4x64.Idx → EReal) (sv : S16x1536x4.Idx → EReal) (ps : S4.Idx → EReal)
    (b : Fin 16) (h : Fin 4) (i j : Fin 1536) : EReal :=
  ((∑ d : Fin 64, Cu (ix4 b i h d) * Kc (ix4 b j h d)) * su (ix3 b i h) * ks (ix2 b h)
    + (∑ d : Fin 64, P (ix3 (⟨1535 - i.1 + j.1, by have := i.isLt; have := j.isLt; omega⟩ : Fin 3071) h d) * Cv (ix4 b i h d)) * sv (ix3 b i h) * ps (ix1 h))
    * Ideal.ofBits .f32 0x3E000000#32

/-- A list of operations run after another. -/
theorem after_app (A B : List (HloOp τ sig (Elt Ideal))) : StableHlo.after (A ++ B) W = StableHlo.after B (StableHlo.after A W) := by
  induction A generalizing W with
  | nil => rfl
  | cons a A ih => exact ih _

/-- The reference's attention, from what its casts leave. -/
theorem tail_out (Cu Kc : S16x1536x4x64.Idx → EReal) (su : S16x1536x4.Idx → EReal) (ks : S16x4.Idx → EReal)
    (P : S3071x4x64.Idx → EReal) (Cv : S16x1536x4x64.Idx → EReal) (sv : S16x1536x4.Idx → EReal) (ps : S4.Idx → EReal)
    (Vb : S16x1536x4x64.Idx → EReal) (vs : S16x4.Idx → EReal)
    (h1 : W (Proc.devRef .tc main_v63_2) = Cu) (h2 : W (Proc.devRef .tc main_v63_4) = Kc) (h3 : W (Proc.devRef .tc main_v31) = su)
    (h4 : W (Proc.devRef .tc main_arg2) = ks) (h5 : W (Proc.devRef .tc main_v63_6) = P) (h6 : W (Proc.devRef .tc main_v63_3) = Cv)
    (h7 : W (Proc.devRef .tc main_v62) = sv) (h8 : W (Proc.devRef .tc main_arg6) = ps) (h9 : W (Proc.devRef .tc main_v63_5) = Vb)
    (h10 : W (Proc.devRef .tc main_arg4) = vs) (b : Fin 16) (i : Fin 1536) (l : Fin 256) (h : Fin 4) (d : Fin 64) (hh : h.1 = l.1 / 64) (hd : d.1 = l.1 % 64)
    (s t : Fin 1536 → EReal) (hs : ∀ j, s j = score Cu Kc su ks P Cv sv ps b h i j)
    (ht : ∀ j, t j = s j - max (Ideal.ofBits FTy.f32 4286578688#32) (Finset.fold max (Ideal.ofBits FTy.f32 4286578688#32) s Finset.univ)) :
    StableHlo.after ([hostOps1, hostOps1_1, hostOps1_2, hostOps1_3, hostOps1_4] : List (List (HloOp τ sig (Elt Ideal)))).flatten W (Proc.devRef .tc main_v103) (ix3 b i l)
      = (∑ x, Vb (ix4 b x h d) * Ideal.exp (t x - Ideal.log (∑ x, Ideal.exp (t x)))) * vs (ix2 b h) := by
  have eh : (⟨l.1 / 64, by have := l.isLt; omega⟩ : Fin 4) = h := Fin.ext hh.symm
  have ed : (⟨l.1 % 64, by omega⟩ : Fin 64) = d := Fin.ext hd.symm
  have es : ([hostOps1, hostOps1_1, hostOps1_2, hostOps1_3, hostOps1_4] : List (List (HloOp τ sig (Elt Ideal)))).flatten
      = hostOps1 ++ (hostOps1_1 ++ (hostOps1_2 ++ ((hostOps1_3.take 8 ++ hostOps1_3.drop 8) ++ hostOps1_4))) := by
    rw [List.take_append_drop]
    simp only [List.flatten_cons, List.flatten_nil, List.append_nil]
  rw [es]
  simp only [after_app]
  set W1 := StableHlo.after hostOps1 W with hW1
  set W2 := StableHlo.after hostOps1_1 W1 with hW2
  set W3 := StableHlo.after hostOps1_2 W2 with hW3
  set W4 := StableHlo.after (hostOps1_3.take 8) W3 with hW4
  set W5 := StableHlo.after (hostOps1_3.drop 8) W4 with hW5
  have a71 : W2 (Proc.devRef .tc main_v71) = W1 (Proc.devRef .tc main_v71) := by rw [hW2]; after_reads_simp
  have a62 : W2 (Proc.devRef .tc main_v62) = sv := by rw [hW2, ← h7]; after_reads_simp; rw [hW1]; after_reads_simp
  have a6 : W2 (Proc.devRef .tc main_arg6) = ps := by rw [hW2, ← h8]; after_reads_simp; rw [hW1]; after_reads_simp
  have aV : W5 (Proc.devRef .tc main_v63_5) = Vb := by
    rw [hW5, ← h9]
    unfold hostOps1_3
    simp only [List.drop]
    after_reads_simp
    rw [hW4]
    unfold hostOps1_3
    simp only [List.take]
    after_reads_simp
    rw [hW3]; after_reads_simp; rw [hW2]; after_reads_simp; rw [hW1]; after_reads_simp
  have a4 : W5 (Proc.devRef .tc main_arg4) = vs := by
    rw [hW5, ← h10]
    unfold hostOps1_3
    simp only [List.drop]
    after_reads_simp
    rw [hW4]
    unfold hostOps1_3
    simp only [List.take]
    after_reads_simp
    rw [hW3]; after_reads_simp; rw [hW2]; after_reads_simp; rw [hW1]; after_reads_simp
  have s71 := fun j => tail_v71 W Cu Kc su ks h1 h2 h3 h4 b h i j
  have s83 : ∀ j : Fin 1536, W2 (Proc.devRef .tc main_v83) (ix4 b h i j) = _ := fun j =>
    (congrFun (tail_v83 W1 _ _ rfl rfl) _).trans ((gather_apply _ _ b _ i j (⟨1535 - i.1 + j.1, by have := i.isLt; have := j.isLt; omega⟩ : Fin 3071)
      (wrap_at _ i j (tail_v82 W i j))).trans (tail_v73 W P Cv h5 h6 b _ i _))
  have s93 : ∀ j : Fin 1536, W3 (Proc.devRef .tc main_v93) (ix4 b h i j) = s j := by
    intro j
    rw [hs, score, ← s71, ← s83 j]
    exact tail_v93 W2 _ _ sv ps a71 rfl a62 a6 b _ i j
  have s5 : ∀ j : Fin 1536, W4 (Proc.devRef .tc main_call1_v5) (ix4 b h i j) = t j := by
    intro j
    rw [ht]
    refine (congrFun (tail_v5 W3 _ rfl) _).trans ((less_at _ _ b _ i j).trans ?_)
    rw [topRow_at, s93]
    simp only [s93]
  have s94 : ∀ j : Fin 1536, W5 (Proc.devRef .tc main_v94) (ix4 b h i j) = t j - Ideal.log (∑ x, Ideal.exp (t x)) := by
    intro j
    refine (tail_v94 W4 _ rfl b _ i j).trans ?_
    simp only [s5]
  refine (tail_v103 W5 _ rfl Vb aV vs a4 b i l).trans ?_
  rw [eh, ed]
  simp only [s94]

end Cert.Proof.Ref
end
-- ==== Proof.RefQuant.lean ====
/- The reference's quantiser: its host operations as functions of the queries and one bias. -/
module

public import proofs.«01_k».proof.Proof.Rows
public import proofs.«01_k».proof.Proof.Gen.ReferenceIdeal.Frame
public import Idealize.ShloMosaic.Lib.Pointwise
public import Idealize.ShloMosaic.Lib.StableHlo.ReadAt
public import Idealize.ShloMosaic.Lib.ValueIdxCore

@[expose] public section

noncomputable section

namespace Cert.Proof.Ref

open Idealize.ShloMosaic Idealize.ShloMosaic.TcCoe Cert.ReferenceIdeal Cert.ReferenceIdeal.Gen
open scoped BigOperators

/-- The queries plus a bias. -/
def biased (Q : FVec Ideal S16x1536x4x64 .bf16) (B : FVec Ideal S4x64 .f32) : FVec Ideal S16x1536x4x64 .f32 :=
  addf (extf .f32 Q bitsLt_bf16_f32) (broadcastInDim S16x1536x4x64 ![0, 1, 2, 3] bcast_S1x1x4x64_S16x1536x4x64_0_1_2_3
    (broadcastInDim S1x1x4x64 ![2, 3] bcast_S4x64_S1x1x4x64_2_3 B))

/-- The greatest magnitude of each row. -/
def rowMax (X : FVec Ideal S16x1536x4x64 .f32) : FVec Ideal S16x1536x4 .f32 :=
  Host.reduce FloatOps.maximumf (Host.absf X) (constant S_ .f32 0xFF800000#32) reducesTo_S16x1536x4x64_S16x1536x4_d3 h_S_

/-- One number for every row. -/
def splat (w : BitVec 32) : FVec Ideal S16x1536x4 .f32 := broadcastInDim S16x1536x4 ![] bcast_S_S16x1536x4 (constant S_ .f32 w)

/-- The exponent of each row. -/
def expo (A : FVec Ideal S16x1536x4 .f32) : FVec Ideal S16x1536x4 .f32 :=
  select (cmpf .oeq A (splat 0x00000000#32)) (splat 0x00000000#32)
    (maximumf (addf (Host.floor (Host.divf (Host.log (mulf A (splat 0x3B124925#32)))
      (broadcastInDim S16x1536x4 ![] bcast_S_S16x1536x4 (Host.log (constant S_ .f32 0x40000000#32))))) (splat 0x3F800000#32)) (splat 0xC2FC0000#32))

/-- The scale of each row. -/
def scale (A : FVec Ideal S16x1536x4 .f32) : FVec Ideal S16x1536x4 .f32 := Host.powf (splat 0x40000000#32) (expo A)

/-- The codes. -/
def code (X : FVec Ideal S16x1536x4x64 .f32) (A : FVec Ideal S16x1536x4 .f32) : FVec Ideal S16x1536x4x64 .f32 :=
  maximumf (minimumf (mulf X (broadcastInDim S16x1536x4x64 ![0, 1, 2, 3] bcast_S16x1536x4x1_S16x1536x4x64_0_1_2_3
      (broadcastInDim S16x1536x4x1 ![0, 1, 2] bcast_S16x1536x4_S16x1536x4x1_0_1_2 (Host.powf (splat 0x40000000#32) (Host.negf (expo A))))))
    (broadcastInDim S16x1536x4x64 ![] bcast_S_S16x1536x4x64 (constant S_ .f32 0x43E00000#32)))
    (broadcastInDim S16x1536x4x64 ![] bcast_S_S16x1536x4x64 (constant S_ .f32 0xC3E00000#32))

variable (W : (b : DevRef τ sig) → b.ty.Contents (Elt Ideal)) (Q : FVec Ideal S16x1536x4x64 .bf16) (hQ : W (Proc.devRef .tc main_arg0) = Q)
  (Bu : FVec Ideal S4x64 .f32) (hu : W (Proc.devRef .tc main_arg7) = Bu) (Bv : FVec Ideal S4x64 .f32) (hv : W (Proc.devRef .tc main_arg8) = Bv)

include hQ hu in
theorem host_v30 : StableHlo.after hostOps0 W (Proc.devRef .tc main_v30) = code (biased Q Bu) (rowMax (biased Q Bu)) := by
  subst hQ hu
  after_reads_simp
  rfl

include hQ hu in
theorem host_v31 : StableHlo.after hostOps0 W (Proc.devRef .tc main_v31) = scale (rowMax (biased Q Bu)) := by
  subst hQ hu
  after_reads_simp
  rfl

include hQ hv in
theorem host_v61 : StableHlo.after hostOps0 W (Proc.devRef .tc main_v61) = code (biased Q Bv) (rowMax (biased Q Bv)) := by
  subst hQ hv
  after_reads_simp
  rfl

include hQ hv in
theorem host_v62 : StableHlo.after hostOps0 W (Proc.devRef .tc main_v62) = scale (rowMax (biased Q Bv)) := by
  subst hQ hv
  after_reads_simp
  rfl

/-- A row of biased queries. -/
theorem biased_at (b : Fin 16) (i : Fin 1536) (h : Fin 4) (d : Fin 64) : biased Q Bu (ix4 b i h d) = (show EReal from Q (ix4 b i h d)) + Bu (ix2 h d) := by
  pointwise [biased]

theorem rowMax_at (X : FVec Ideal S16x1536x4x64 .f32) (b : Fin 16) (i : Fin 1536) (h : Fin 4) :
    rowMax X (ix3 b i h) = Finset.univ.fold max (Ideal.ofBits FTy.f32 4286578688#32) (fun d : Fin 64 => max (show EReal from X (ix4 b i h d)) (-(show EReal from X (ix4 b i h d)))) := by
  pointwise [rowMax]
  rfl

theorem expo_at (A : FVec Ideal S16x1536x4 .f32) (b : Fin 16) (i : Fin 1536) (h : Fin 4) :
    expo A (ix3 b i h) = Kern.logExpo (A (ix3 b i h)) := by
  show expo A (ix3 b i h) = if A (ix3 b i h) = (0 : EReal) then (0 : EReal) else max (Ideal.liftRound Int.floor (Ideal.div (Ideal.log ((A (ix3 b i h) : EReal) * Ideal.ofBits FTy.f32 991054117#32)) (Ideal.log (Ideal.ofBits FTy.f32 1073741824#32))) + 1) (Ideal.ofBits FTy.f32 3271294976#32)
  pointwise [expo, splat]

theorem scale_at (A : FVec Ideal S16x1536x4 .f32) (b : Fin 16) (i : Fin 1536) (h : Fin 4) :
    scale A (ix3 b i h) = Ideal.pow (Ideal.ofBits .f32 0x40000000#32) (expo A (ix3 b i h)) := by
  pointwise [scale, splat]

theorem code_at (X : FVec Ideal S16x1536x4x64 .f32) (A : FVec Ideal S16x1536x4 .f32) (b : Fin 16) (i : Fin 1536) (h : Fin 4) (d : Fin 64) :
    code X A (ix4 b i h d) = max (min ((show EReal from X (ix4 b i h d)) * Ideal.pow (Ideal.ofBits .f32 0x40000000#32) (-(show EReal from expo A (ix3 b i h)))) (Ideal.ofBits .f32 0x43E00000#32)) (Ideal.ofBits .f32 0xC3E00000#32) := by
  pointwise [code, splat]

end Cert.Proof.Ref
end
-- ==== Proof.RefArrays.lean ====
/- The arrays that the reference's region leaves: each is its input array, a change of format being the identity on
   exact values. -/
module

public import proofs.«01_k».proof.Proof.RefTail
public import proofs.«01_k».proof.Proof.RefQuant
public import Idealize.ShloMosaic.Lib.Pipeline.ValueKit

@[expose] public section

set_option maxRecDepth 16384

noncomputable section

namespace Cert.Proof.Ref

open Idealize.ShloMosaic Idealize.ShloMosaic.TcCoe Cert.ReferenceIdeal Cert.ReferenceIdeal.Gen
open scoped BigOperators

variable (m : (ℓ : Loc nD τ sig) → Buf (Elt Ideal) ℓ) (c : Dev nD)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem ind0 : ∀ t : Fin cfg0.N, win0_0.index t = ![0, 0, 0, 0] := (by decide +kernel : ∀ t : Fin grid0.N, _)
theorem ind1 : ∀ t : Fin cfg0.N, win0_1.index t = ![0, 0, 0, 0] := (by decide +kernel : ∀ t : Fin grid0.N, _)
theorem ind2 : ∀ t : Fin cfg0.N, win0_2.index t = ![0, 0, 0, 0] := (by decide +kernel : ∀ t : Fin grid0.N, _)
theorem ind3 : ∀ t : Fin cfg0.N, win0_3.index t = ![0, 0, 0, 0] := (by decide +kernel : ∀ t : Fin grid0.N, _)
theorem ind4 : ∀ t : Fin cfg0.N, win0_4.index t = ![0, 0, 0] := (by decide +kernel : ∀ t : Fin grid0.N, _)
theorem ind5 : ∀ t : Fin cfg0.N, win0_5.index t = ![0, 0, 0, 0] := (by decide +kernel : ∀ t : Fin grid0.N, _)
theorem ind6 : ∀ t : Fin cfg0.N, win0_6.index t = ![0, 0, 0, 0] := (by decide +kernel : ∀ t : Fin grid0.N, _)
theorem ind7 : ∀ t : Fin cfg0.N, win0_7.index t = ![0, 0, 0, 0] := (by decide +kernel : ∀ t : Fin grid0.N, _)
theorem ind8 : ∀ t : Fin cfg0.N, win0_8.index t = ![0, 0, 0, 0] := (by decide +kernel : ∀ t : Fin grid0.N, _)
theorem ind9 : ∀ t : Fin cfg0.N, win0_9.index t = ![0, 0, 0, 0] := (by decide +kernel : ∀ t : Fin grid0.N, _)
theorem ind10 : ∀ t : Fin cfg0.N, win0_10.index t = ![0, 0, 0, 0] := (by decide +kernel : ∀ t : Fin grid0.N, _)
theorem ind11 : ∀ t : Fin cfg0.N, win0_11.index t = ![0, 0, 0] := (by decide +kernel : ∀ t : Fin grid0.N, _)

theorem iblk0_at (X : S16x1536x4x64.Idx → EReal) (hX : V m c main_v30 = X) (t : Fin cfg0.N) : iblk m c 0 t = X := by
  subst hX
  funext y
  blk_simp [iblk, ind0]
  refine congrArg _ ?_
  blk_ext [ind0]

theorem iblk1_at (X : S16x1536x4x64.Idx → EReal) (hX : V m c main_v61 = X) (t : Fin cfg0.N) : iblk m c 1 t = X := by
  subst hX
  funext y
  blk_simp [iblk, ind1]
  refine congrArg _ ?_
  blk_ext [ind1]

theorem iblk2_at (X : S16x1536x4x64.Idx → EReal) (hX : V m c main_arg1 = X) (t : Fin cfg0.N) : iblk m c 2 t = X := by
  subst hX
  funext y
  blk_simp [iblk, ind2]
  refine congrArg _ ?_
  blk_ext [ind2]

theorem iblk3_at (X : S16x1536x4x64.Idx → EReal) (hX : V m c main_arg3 = X) (t : Fin cfg0.N) : iblk m c 3 t = X := by
  subst hX
  funext y
  blk_simp [iblk, ind3]
  refine congrArg _ ?_
  blk_ext [ind3]

theorem iblk4_at (X : S3071x4x64.Idx → EReal) (hX : V m c main_arg5 = X) (t : Fin cfg0.N) : iblk m c 4 t = X := by
  subst hX
  funext y
  blk_simp [iblk, ind4]
  refine congrArg _ ?_
  blk_ext [ind4]

theorem out5_eq (x0 x1 : Vec Ideal S16x1536x4x64 .f32) (x2 x3 : Vec Ideal S16x1536x4x64 .fp8e4m3) (x4 : Vec Ideal S3071x4x64 .fp8e4m3) : out0_5 x0 x1 x2 x3 x4 = x0 := by
  unfold out0_5
  rw [View.canon_unit_zero hz4, View.ld_unit_zero hz4]
  funext y
  pointwise [k0_pay3]

/-- Output window 5 ends as its input array. -/
theorem arr5 (X : S16x1536x4x64.Idx → EReal) (hX : V m c main_v30 = X) : (dats m 0 c).arrAt 5 cfg0.N = X := by
  refine (dats m 0 c).arrAt_eq_of_covers 5 _ (by decide +kernel) fun t hf y => ?_
  have ey : (win0_5.blk t).view.emb y = y := by blk_ext [ind5]
  rw [after0_5, out5_eq, iblk0_at m c X hX t]
  exact congrArg X ey.symm

theorem out6_eq (x0 x1 : Vec Ideal S16x1536x4x64 .f32) (x2 x3 : Vec Ideal S16x1536x4x64 .fp8e4m3) (x4 : Vec Ideal S3071x4x64 .fp8e4m3) : out0_6 x0 x1 x2 x3 x4 = x1 := by
  unfold out0_6
  rw [View.canon_unit_zero hz4, View.ld_unit_zero hz4]
  funext y
  pointwise [k0_pay4]

/-- Output window 6 ends as its input array. -/
theorem arr6 (X : S16x1536x4x64.Idx → EReal) (hX : V m c main_v61 = X) : (dats m 0 c).arrAt 6 cfg0.N = X := by
  refine (dats m 0 c).arrAt_eq_of_covers 6 _ (by decide +kernel) fun t hf y => ?_
  have ey : (win0_6.blk t).view.emb y = y := by blk_ext [ind6]
  rw [after0_6, out6_eq, iblk1_at m c X hX t]
  exact congrArg X ey.symm

theorem out7_eq (x0 x1 : Vec Ideal S16x1536x4x64 .f32) (x2 x3 : Vec Ideal S16x1536x4x64 .fp8e4m3) (x4 : Vec Ideal S3071x4x64 .fp8e4m3) : out0_7 x0 x1 x2 x3 x4 = x0 := by
  unfold out0_7
  rw [View.canon_unit_zero hz4, View.ld_unit_zero hz4]
  funext y
  pointwise [k0_pay5]

/-- Output window 7 ends as its input array. -/
theorem arr7 (X : S16x1536x4x64.Idx → EReal) (hX : V m c main_v30 = X) : (dats m 0 c).arrAt 7 cfg0.N = X := by
  refine (dats m 0 c).arrAt_eq_of_covers 7 _ (by decide +kernel) fun t hf y => ?_
  have ey : (win0_7.blk t).view.emb y = y := by blk_ext [ind7]
  rw [after0_7, out7_eq, iblk0_at m c X hX t]
  exact congrArg X ey.symm

theorem out8_eq (x0 x1 : Vec Ideal S16x1536x4x64 .f32) (x2 x3 : Vec Ideal S16x1536x4x64 .fp8e4m3) (x4 : Vec Ideal S3071x4x64 .fp8e4m3) : out0_8 x0 x1 x2 x3 x4 = x1 := by
  unfold out0_8
  rw [View.canon_unit_zero hz4, View.ld_unit_zero hz4]
  funext y
  pointwise [k0_pay6]

/-- Output window 8 ends as its input array. -/
theorem arr8 (X : S16x1536x4x64.Idx → EReal) (hX : V m c main_v61 = X) : (dats m 0 c).arrAt 8 cfg0.N = X := by
  refine (dats m 0 c).arrAt_eq_of_covers 8 _ (by decide +kernel) fun t hf y => ?_
  have ey : (win0_8.blk t).view.emb y = y := by blk_ext [ind8]
  rw [after0_8, out8_eq, iblk1_at m c X hX t]
  exact congrArg X ey.symm

theorem out9_eq (x0 x1 : Vec Ideal S16x1536x4x64 .f32) (x2 x3 : Vec Ideal S16x1536x4x64 .fp8e4m3) (x4 : Vec Ideal S3071x4x64 .fp8e4m3) : out0_9 x0 x1 x2 x3 x4 = x2 := by
  unfold out0_9
  rw [View.canon_unit_zero hz4, View.ld_unit_zero hz4]
  funext y
  pointwise [k0_pay7]

/-- Output window 9 ends as its input array. -/
theorem arr9 (X : S16x1536x4x64.Idx → EReal) (hX : V m c main_arg1 = X) : (dats m 0 c).arrAt 9 cfg0.N = X := by
  refine (dats m 0 c).arrAt_eq_of_covers 9 _ (by decide +kernel) fun t hf y => ?_
  have ey : (win0_9.blk t).view.emb y = y := by blk_ext [ind9]
  rw [after0_9, out9_eq, iblk2_at m c X hX t]
  exact congrArg X ey.symm

theorem out10_eq (x0 x1 : Vec Ideal S16x1536x4x64 .f32) (x2 x3 : Vec Ideal S16x1536x4x64 .fp8e4m3) (x4 : Vec Ideal S3071x4x64 .fp8e4m3) : out0_10 x0 x1 x2 x3 x4 = x3 := by
  unfold out0_10
  rw [View.canon_unit_zero hz4, View.ld_unit_zero hz4]
  funext y
  pointwise [k0_pay1]

/-- Output window 10 ends as its input array. -/
theorem arr10 (X : S16x1536x4x64.Idx → EReal) (hX : V m c main_arg3 = X) : (dats m 0 c).arrAt 10 cfg0.N = X := by
  refine (dats m 0 c).arrAt_eq_of_covers 10 _ (by decide +kernel) fun t hf y => ?_
  have ey : (win0_10.blk t).view.emb y = y := by blk_ext [ind10]
  rw [after0_10, out10_eq, iblk3_at m c X hX t]
  exact congrArg X ey.symm

theorem out11_eq (x0 x1 : Vec Ideal S16x1536x4x64 .f32) (x2 x3 : Vec Ideal S16x1536x4x64 .fp8e4m3) (x4 : Vec Ideal S3071x4x64 .fp8e4m3) : out0_11 x0 x1 x2 x3 x4 = x4 := by
  unfold out0_11
  rw [View.canon_unit_zero hz3, View.ld_unit_zero hz3]
  funext y
  pointwise [k0_pay2]

/-- Output window 11 ends as its input array. -/
theorem arr11 (X : S3071x4x64.Idx → EReal) (hX : V m c main_arg5 = X) : (dats m 0 c).arrAt 11 cfg0.N = X := by
  refine (dats m 0 c).arrAt_eq_of_covers 11 _ (by decide +kernel) fun t hf y => ?_
  have ey : (win0_11.blk t).view.emb y = y := by blk_ext [ind11]
  rw [after0_11, out11_eq, iblk4_at m c X hX t]
  exact congrArg X ey.symm

end Cert.Proof.Ref

end
-- ==== Proof.RefRun.lean ====
/- The reference's five results as functions of its arguments. -/
module

public import proofs.«01_k».proof.Proof.RefArrays
public import proofs.«01_k».proof.Proof.Target
public import Idealize.ShloMosaic.Lib.Claim

@[expose] public section

set_option maxRecDepth 16384

noncomputable section

namespace Cert.Proof.Ref

open Idealize.ShloMosaic Idealize.ShloMosaic.TcCoe Idealize.SL.Sem Cert.ReferenceIdeal Cert.ReferenceIdeal.Gen
open Cert.Proof.Kern (brow codes scales results result scoreNat attendNat)
open scoped BigOperators

variable (m : (ℓ : Loc nD τ sig) → Buf (Elt Ideal) ℓ) (ρ : Dev nD → PrngReg) (c : Dev nD)

theorem V_eq (b : Ref sig .tc) : V m c b = StableHlo.after hostOps0 (fun b => m (c, b)) (Proc.devRef .tc b) := by
  show StableHlo.after (List.flatten [hostOps0]) (fun b => m (c, b)) (Proc.devRef .tc b) = _
  rw [List.flatten_cons, List.flatten_nil, List.append_nil]

theorem amax_at (Q : S16x1536x4x64.Idx → EReal) (B : S4x64.Idx → EReal) (b : Fin 16) (i : Fin 1536) (h : Fin 4) :
    rowMax (biased Q B) (ix3 b i h) = Kern.amax (brow Q B b i h) := by
  rw [rowMax_at]
  have e : ∀ d, biased Q B (ix4 b i h d) = brow Q B b i h d := fun d => biased_at Q B b i h d
  unfold Kern.amax
  exact congrArg (fun f : Fin 64 → EReal => Finset.univ.fold max (Ideal.ofBits FTy.f32 4286578688#32) f) (funext fun d => by rw [e d])

theorem code_place (Q : S16x1536x4x64.Idx → EReal) (B : S4x64.Idx → EReal) (b : Fin 16) (i : Fin 1536) (h : Fin 4) (d : Fin 64)
    (hx : ∀ d, ∃ r : ℝ, brow Q B b i h d = (r : EReal) ∧ |r| < 2 ^ 129) :
    code (biased Q B) (rowMax (biased Q B)) (ix4 b i h d) = Kern.rowCode (brow Q B b i h) d := by
  have e : biased Q B (ix4 b i h d) = brow Q B b i h d := biased_at Q B b i h d
  refine (code_at _ _ b i h d).trans ?_
  rw [expo_at, amax_at, e]
  exact Kern.code_ref (brow Q B b i h) hx d

/-- The reference's codes are the kernel's, every row being of real entries of bounded size. -/
theorem code_eq (Q : S16x1536x4x64.Idx → EReal) (B : S4x64.Idx → EReal)
    (hx : ∀ b i h d, ∃ r : ℝ, brow Q B b i h d = (r : EReal) ∧ |r| < 2 ^ 129) : code (biased Q B) (rowMax (biased Q B)) = codes Q B := by
  funext y
  have ey : y = ix4 (y 0) (y 1) (y 2) (y 3) := by idx_ext
  exact (congrArg (code (biased Q B) (rowMax (biased Q B))) ey).trans (code_place Q B (y 0) (y 1) (y 2) (y 3) (hx _ _ _))

theorem scale_place (Q : S16x1536x4x64.Idx → EReal) (B : S4x64.Idx → EReal) (b : Fin 16) (i : Fin 1536) (h : Fin 4)
    (hx : ∀ d, ∃ r : ℝ, brow Q B b i h d = (r : EReal) ∧ |r| < 2 ^ 129) :
    scale (rowMax (biased Q B)) (ix3 b i h) = Kern.rowScale (brow Q B b i h) := by
  refine (scale_at _ b i h).trans ?_
  rw [expo_at, amax_at]
  exact Kern.scale_ref (brow Q B b i h) hx

/-- The reference's scales are the kernel's. -/
theorem scale_eq (Q : S16x1536x4x64.Idx → EReal) (B : S4x64.Idx → EReal)
    (hx : ∀ b i h d, ∃ r : ℝ, brow Q B b i h d = (r : EReal) ∧ |r| < 2 ^ 129) : scale (rowMax (biased Q B)) = scales Q B := by
  funext y
  have ey : y = ix3 (y 0) (y 1) (y 2) := by idx_ext
  exact (congrArg (scale (rowMax (biased Q B))) ey).trans (scale_place Q B (y 0) (y 1) (y 2) (hx _ _ _))

section

variable (Q : S16x1536x4x64.Idx → EReal) (hQ : m ((c : Thread nD τ).loc main_arg0) = Q)
  (K : S16x1536x4x64.Idx → EReal) (hK : m ((c : Thread nD τ).loc main_arg1) = K)
  (ks : S16x4.Idx → EReal) (hks : m ((c : Thread nD τ).loc main_arg2) = ks)
  (X : S16x1536x4x64.Idx → EReal) (hX : m ((c : Thread nD τ).loc main_arg3) = X)
  (vs : S16x4.Idx → EReal) (hvs : m ((c : Thread nD τ).loc main_arg4) = vs)
  (P : S3071x4x64.Idx → EReal) (hP : m ((c : Thread nD τ).loc main_arg5) = P)
  (ps : S4.Idx → EReal) (hps : m ((c : Thread nD τ).loc main_arg6) = ps)
  (Bu Bv : S4x64.Idx → EReal) (hu : m ((c : Thread nD τ).loc main_arg7) = Bu) (hv : m ((c : Thread nD τ).loc main_arg8) = Bv)
  (hxu : ∀ b i h d, ∃ r : ℝ, brow Q Bu b i h d = (r : EReal) ∧ |r| < 2 ^ 129)
  (hxv : ∀ b i h d, ∃ r : ℝ, brow Q Bv b i h d = (r : EReal) ∧ |r| < 2 ^ 129)

include hQ hu hxu in
theorem V_v30 : V m c main_v30 = codes Q Bu := (V_eq m c main_v30).trans ((host_v30 _ Q hQ Bu hu).trans (code_eq Q Bu hxu))

include hQ hv hxv in
theorem V_v61 : V m c main_v61 = codes Q Bv := (V_eq m c main_v61).trans ((host_v61 _ Q hQ Bv hv).trans (code_eq Q Bv hxv))

include hQ hu hxu in
theorem V_v31 : V m c main_v31 = scales Q Bu := (V_eq m c main_v31).trans ((host_v31 _ Q hQ Bu hu).trans (scale_eq Q Bu hxu))

include hQ hv hxv in
theorem V_v62 : V m c main_v62 = scales Q Bv := (V_eq m c main_v62).trans ((host_v62 _ Q hQ Bv hv).trans (scale_eq Q Bv hxv))

/-- The memory that the host steps after the region start from. -/
abbrev Wt : (b : DevRef τ sig) → b.ty.Contents (Elt Ideal) :=
  Pipeline.withArrays (cfgs 0).spec c (V0 m c) fun w => (dats m 0 c).arrAt w (cfgs 0).N

theorem Wt_arr (w : Fin cfg0.W) : Wt m c (Proc.devRef .tc (Pipeline.arrRef spec0 w)) = (dats m 0 c).arrAt w cfg0.N :=
  Pipeline.withArrays_arr spec0 (by decide) c (V0 m c) _ w

theorem Wt_rest (b : Ref sig .tc) (hb : ∀ w, Pipeline.arrRef spec0 w ≠ b) : Wt m c (Proc.devRef .tc b) = V m c b :=
  Pipeline.withArrays_of_ne spec0 c (V0 m c) _ b hb

theorem kept_v31 : Pipeline.afterTail₀ cfgs (dats m) 0 (V0 m) [hostOps1, hostOps1_1, hostOps1_2, hostOps1_3, hostOps1_4] c main_v31 = V m c main_v31 := by
  unfold Pipeline.afterTail₀
  rw [StableHlo.after_of_forall_not_mem (b := Proc.devRef .tc main_v31) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Wt_rest m c main_v31 (by decide)

theorem kept_v62 : Pipeline.afterTail₀ cfgs (dats m) 0 (V0 m) [hostOps1, hostOps1_1, hostOps1_2, hostOps1_3, hostOps1_4] c main_v62 = V m c main_v62 := by
  unfold Pipeline.afterTail₀
  rw [StableHlo.after_of_forall_not_mem (b := Proc.devRef .tc main_v62) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Wt_rest m c main_v62 (by decide)

include hQ hK hks hX hvs hP hps hu hv hxu hxv in
theorem ref_place (b : Fin 16) (i : Fin 1536) (l : Fin 256) (h : Fin 4) (d : Fin 64) (hh : h.1 = l.1 / 64) (hd : d.1 = l.1 % 64) :
    StableHlo.after ([hostOps1, hostOps1_1, hostOps1_2, hostOps1_3, hostOps1_4] : List (List (HloOp τ sig (Elt Ideal)))).flatten (Wt m c) (Proc.devRef .tc main_v103) (ix3 b i l) = result Q K ks X vs P ps Bu Bv b i h d := by
  have s30 := V_v30 m c Q hQ Bu hu hxu
  have s61 := V_v61 m c Q hQ Bv hv hxv
  have ht : ∀ j, scoreNat Q K P Bu Bv ks ps b h i j - Finset.univ.sup (scoreNat Q K P Bu Bv ks ps b h i)
      = scoreNat Q K P Bu Bv ks ps b h i j - max (Ideal.ofBits FTy.f32 4286578688#32) (Finset.fold max (Ideal.ofBits FTy.f32 4286578688#32) (scoreNat Q K P Bu Bv ks ps b h i) Finset.univ) :=
    fun j => by rw [Kern.fold_sup]
  exact tail_out (Wt m c) (codes Q Bu) K (scales Q Bu) ks P (codes Q Bv) (scales Q Bv) ps X vs
    ((Wt_arr m c 7).trans (arr7 m c _ s30)) ((Wt_arr m c 9).trans (arr9 m c _ ((V_main_arg1 m c).trans hK)))
    ((Wt_rest m c main_v31 (by decide)).trans (V_v31 m c Q hQ Bu hu hxu))
    ((Wt_rest m c main_arg2 (by decide)).trans ((V_main_arg2 m c).trans hks))
    ((Wt_arr m c 11).trans (arr11 m c _ ((V_main_arg5 m c).trans hP)))
    ((Wt_arr m c 8).trans (arr8 m c _ s61))
    ((Wt_rest m c main_v62 (by decide)).trans (V_v62 m c Q hQ Bv hv hxv))
    ((Wt_rest m c main_arg6 (by decide)).trans ((V_main_arg6 m c).trans hps))
    ((Wt_arr m c 10).trans (arr10 m c _ ((V_main_arg3 m c).trans hX)))
    ((Wt_rest m c main_arg4 (by decide)).trans ((V_main_arg4 m c).trans hvs))
    b i l h d hh hd (scoreNat Q K P Bu Bv ks ps b h i) _ (fun j => rfl) ht

include hQ hK hks hX hvs hP hps hu hv hxu hxv in
theorem ref_v103 : Pipeline.afterTail₀ cfgs (dats m) 0 (V0 m) [hostOps1, hostOps1_1, hostOps1_2, hostOps1_3, hostOps1_4] c main_v103
    = results Q K ks X vs P ps Bu Bv := by
  show StableHlo.after ([hostOps1, hostOps1_1, hostOps1_2, hostOps1_3, hostOps1_4] : List (List (HloOp τ sig (Elt Ideal)))).flatten (Wt m c) (Proc.devRef .tc main_v103) = _
  funext y
  have h2 : (y 2).1 < 256 := (y 2).2
  have ey : y = ix3 (y 0) (y 1) (y 2) := by idx_ext
  refine (congrArg (StableHlo.after ([hostOps1, hostOps1_1, hostOps1_2, hostOps1_3, hostOps1_4] : List (List (HloOp τ sig (Elt Ideal)))).flatten (Wt m c) (Proc.devRef .tc main_v103)) ey).trans ?_
  exact ref_place m c Q hQ K hK ks hks X hX vs hvs P hP ps hps Bu Bv hu hv hxu hxv (y 0) (y 1) (y 2) ⟨(y 2).1 / 64, by omega⟩ ⟨(y 2).1 % 64, by omega⟩ rfl rfl

end

/-- The reference ends with the same five results, the rows that it quantises being of real entries of bounded size. -/
theorem run_results (hxu : ∀ (c : Dev nD) b i h d, ∃ r : ℝ, brow (m ((c.tc : Thread nD τ).loc main_arg0)) (m ((c.tc : Thread nD τ).loc main_arg7)) b i h d = (r : EReal) ∧ |r| < 2 ^ 129)
    (hxv : ∀ (c : Dev nD) b i h d, ∃ r : ℝ, brow (m ((c.tc : Thread nD τ).loc main_arg0)) (m ((c.tc : Thread nD τ).loc main_arg8)) b i h d = (r : EReal) ∧ |r| < 2 ^ 129) :
    θ_run defs (onTc (τ := τ) (main (F := Ideal))) ⟨m, fun _ => 0, ρ⟩ (fun r => ∀ c : Dev nD,
      r.2.mem ((c.tc : Thread nD τ).loc main_v103) = results (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v63_0) = codes (m ((c.tc : Thread nD τ).loc main_arg0)) (m ((c.tc : Thread nD τ).loc main_arg7))
      ∧ r.2.mem ((c.tc : Thread nD τ).loc main_v31) = scales (m ((c.tc : Thread nD τ).loc main_arg0)) (m ((c.tc : Thread nD τ).loc main_arg7))
      ∧ r.2.mem ((c.tc : Thread nD τ).loc main_v63_1) = codes (m ((c.tc : Thread nD τ).loc main_arg0)) (m ((c.tc : Thread nD τ).loc main_arg8))
      ∧ r.2.mem ((c.tc : Thread nD τ).loc main_v62) = scales (m ((c.tc : Thread nD τ).loc main_arg0)) (m ((c.tc : Thread nD τ).loc main_arg8))) :=
  (θ_run defs _ _).mono (fun r h c => ⟨(h.rest_eq c main_v103 (by decide)).trans (ref_v103 m c _ rfl _ rfl _ rfl _ rfl _ rfl _ rfl _ rfl _ _ rfl rfl (hxu c) (hxv c)),
    (h.out_eq c 5).trans (arr5 m c _ (V_v30 m c _ rfl _ rfl (hxu c))),
    ((h.rest_eq c main_v31 (by decide)).trans (kept_v31 m c)).trans (V_v31 m c _ rfl _ rfl (hxu c)),
    (h.out_eq c 6).trans (arr6 m c _ (V_v61 m c _ rfl _ rfl (hxv c))),
    ((h.rest_eq c main_v62 (by decide)).trans (kept_v62 m c)).trans (V_v62 m c _ rfl _ rfl (hxv c))⟩) (run_main m ρ)

end Cert.Proof.Ref

end
-- ==== Proof.Finite.lean ====
/- What the precondition gives: every entry of the queries and of the two biases is a real number of bounded size. -/
module

public import proofs.«01_k».proof.Defs
public import proofs.«01_k».proof.Proof.Target
public import Idealize.ShloMosaic.Lib.Pointwise
public import Idealize.ShloMosaic.Lib.ReduceAll

@[expose] public section

set_option maxRecDepth 16384

noncomputable section

namespace Cert.Proof.Bound

open Idealize.ShloMosaic Idealize.ShloMosaic.TcCoe Cert.Pre_finite

theorem facts : Cert.Pre_finite.Facts where
  bcast_S_S16x1536x4x64 := by decide
  reducesTo_S16x1536x4x64_S_d0_1_2_3 := by decide
  h_S_ := by decide
  bcast_S_S4x64 := by decide
  reducesTo_S4x64_S_d0_1 := by decide

attribute [local instance] facts

open Facts

instance : Subsingleton S_.Idx := ⟨fun a b => funext fun k => k.elim0⟩

theorem bf16_max : Ideal.ofBits FTy.bf16 0x7F7F#16 = (((255 : ℝ) * 2 ^ 120 : ℝ) : EReal) := by
  simp [Ideal.ofBits, Ideal.ieee]

theorem f32_max : Ideal.ofBits FTy.f32 0x7F7FFFFF#32 = (((16777215 : ℝ) * 2 ^ 104 : ℝ) : EReal) := by
  simp [Ideal.ofBits, Ideal.ieee]

/-- A comparison bit that is set. -/
theorem le_of_bit (x y : EReal) (h : Ideal.cmp .ole x y = 1#1) : x ≤ y := by
  by_contra hn
  simp [Ideal.cmp, hn] at h

/-- An extended real whose magnitude is at most a real number is a real number. -/
theorem real_of_le (x : EReal) (M : ℝ) (h : max x (-x) ≤ (M : EReal)) : ∃ r : ℝ, x = (r : EReal) ∧ |r| ≤ M := by
  obtain ⟨h1, h2⟩ := max_le_iff.1 h
  induction x using EReal.rec with
  | bot => simp at h2
  | top => simp at h1
  | coe r =>
    refine ⟨r, rfl, abs_le'.2 ⟨by exact_mod_cast h1, ?_⟩⟩
    rw [← EReal.coe_neg] at h2
    exact_mod_cast h2

variable (a0 : FVec Ideal S16x1536x4x64 .bf16) (a1 : FVec Ideal S16x1536x4x64 .fp8e4m3) (a2 : FVec Ideal S16x4 .f32) (a3 : FVec Ideal S16x1536x4x64 .fp8e4m3)
  (a4 : FVec Ideal S16x4 .f32) (a5 : FVec Ideal S3071x4x64 .fp8e4m3) (a6 : FVec Ideal S4 .f32) (a7 a8 : FVec Ideal S4x64 .f32)

theorem bits (h : fn (F := Ideal) a0 a1 a2 a3 a4 a5 a6 a7 a8 = fun _ => 1#1) :
    (∀ i, cmpf (F := Ideal) .ole (Host.absf a0) (broadcastInDim S16x1536x4x64 ![] bcast_S_S16x1536x4x64 (constant S_ .bf16 0x7F7F#16)) i = 1#1)
    ∧ (∀ i, cmpf (F := Ideal) .ole (Host.absf a7) (broadcastInDim S4x64 ![] bcast_S_S4x64 (constant S_ .f32 0x7F7FFFFF#32)) i = 1#1)
    ∧ (∀ i, cmpf (F := Ideal) .ole (Host.absf a8) (broadcastInDim S4x64 ![] bcast_S_S4x64 (constant S_ .f32 0x7F7FFFFF#32)) i = 1#1) := by
  have e := congrFun h (fun k => k.elim0)
  obtain ⟨e1, e3⟩ := IntOp.andi_eq_one.1 (show IntOp.andi _ _ = 1#1 from e)
  obtain ⟨e1, e2⟩ := IntOp.andi_eq_one.1 (show IntOp.andi _ _ = 1#1 from e1)
  exact ⟨Host.reduce_andi_all _ _ _ _ _ e1, Host.reduce_andi_all _ _ _ _ _ e2, Host.reduce_andi_all _ _ _ _ _ e3⟩

/-- The rows that are quantised, from bounded queries and a bounded bias. -/
theorem rows (a : S16x1536x4x64.Idx → EReal) (u : S4x64.Idx → EReal)
    (h : ∀ i, max (a i) (-(a i)) ≤ Ideal.ofBits FTy.bf16 0x7F7F#16) (h' : ∀ i, max (u i) (-(u i)) ≤ Ideal.ofBits FTy.f32 0x7F7FFFFF#32)
    (b : Fin 16) (i : Fin 1536) (k : Fin 4) (d : Fin 64) : ∃ r : ℝ, Kern.brow a u b i k d = (r : EReal) ∧ |r| < 2 ^ 129 := by
  obtain ⟨r, hr, hr'⟩ := real_of_le _ _ (bf16_max ▸ h (ix4 b i k d))
  obtain ⟨s, hs, hs'⟩ := real_of_le _ _ (f32_max ▸ h' (ix2 k d))
  refine ⟨r + s, ?_, ?_⟩
  · show a (ix4 b i k d) + u (ix2 k d) = _
    rw [hr, hs, ← EReal.coe_add]
  · refine lt_of_le_of_lt (abs_add_le r s) (lt_of_le_of_lt (add_le_add hr' hs') ?_)
    norm_num

/-- The precondition bounds the rows with either bias. -/
theorem rows_of (h : fn (F := Ideal) a0 a1 a2 a3 a4 a5 a6 a7 a8 = fun _ => 1#1) :
    (∀ b i k d, ∃ r : ℝ, Kern.brow a0 a7 b i k d = (r : EReal) ∧ |r| < 2 ^ 129)
    ∧ (∀ b i k d, ∃ r : ℝ, Kern.brow a0 a8 b i k d = (r : EReal) ∧ |r| < 2 ^ 129) := by
  obtain ⟨h0, h7, h8⟩ := bits a0 a1 a2 a3 a4 a5 a6 a7 a8 h
  exact ⟨rows a0 a7 (fun i => le_of_bit _ _ (h0 i)) (fun i => le_of_bit _ _ (h7 i)), rows a0 a8 (fun i => le_of_bit _ _ (h0 i)) (fun i => le_of_bit _ _ (h8 i))⟩

end Cert.Proof.Bound

end
-- ==== Proof.Algebraic.lean ====
/- The value claim: the idealized kernel and the reference end with the same five results. -/
module

public import proofs.«01_k».proof.Proof.KernelRun
public import proofs.«01_k».proof.Proof.RefRun
public import proofs.«01_k».proof.Proof.Finite

@[expose] public section

noncomputable section

namespace Cert.Proof

open Idealize.ShloMosaic Idealize.ShloMosaic.TcCoe Idealize.SL.Sem Cert

/-- From equal arguments that meet the precondition, each of the five results of the idealized kernel is the
    reference's, and both programs leave their arguments unchanged. -/
theorem algebraic : algebraic_KernelIdeal_ReferenceIdeal_pre_finite (hKernelIdeal := Cert.KernelIdeal.Gen.facts)
    (hReferenceIdeal := Cert.ReferenceIdeal.Gen.facts) (hPre_finite := Bound.facts) := by
  intro m g m' g' hpre hargs
  have hrows := fun c => Bound.rows_of _ _ _ _ _ _ _ _ _ (hpre c)
  have hk := θ_run_and (Kern.run_results m g) (Cert.KernelIdeal.Gen.unchanged m g)
  have hr := θ_run_and (Ref.run_results m' g'
      (fun c => by obtain ⟨h0, h1, h2, h3, h4, h5, h6, h7, h8⟩ := hargs c; rw [h0, h7]; exact (hrows c).1)
      (fun c => by obtain ⟨h0, h1, h2, h3, h4, h5, h6, h7, h8⟩ := hargs c; rw [h0, h8]; exact (hrows c).2))
    (Cert.ReferenceIdeal.Gen.unchanged m' g')
  refine ⟨fun c => Kern.results (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)),
    fun c => Kern.codes (m ((c.tc : Thread KernelIdeal.nD KernelIdeal.τ).loc KernelIdeal.main_arg0)) (m ((c.tc : Thread KernelIdeal.nD KernelIdeal.τ).loc KernelIdeal.main_arg7)), fun c => Kern.scales (m ((c.tc : Thread KernelIdeal.nD KernelIdeal.τ).loc KernelIdeal.main_arg0)) (m ((c.tc : Thread KernelIdeal.nD KernelIdeal.τ).loc KernelIdeal.main_arg7)),
    fun c => Kern.codes (m ((c.tc : Thread KernelIdeal.nD KernelIdeal.τ).loc KernelIdeal.main_arg0)) (m ((c.tc : Thread KernelIdeal.nD KernelIdeal.τ).loc KernelIdeal.main_arg8)), fun c => Kern.scales (m ((c.tc : Thread KernelIdeal.nD KernelIdeal.τ).loc KernelIdeal.main_arg0)) (m ((c.tc : Thread KernelIdeal.nD KernelIdeal.τ).loc KernelIdeal.main_arg8)), ?_, ?_⟩
  · refine (θ_run _ _ _).mono (fun r h c => ?_) hk
    obtain ⟨r1, r2, r3, r4, r5⟩ := h.1 c
    exact ⟨r1, r2, r3, r4, r5, h.2 c⟩
  · refine (θ_run _ _ _).mono (fun r h c => ?_) hr
    obtain ⟨r1, r2, r3, r4, r5⟩ := h.1 c
    obtain ⟨h0, h1, h2, h3, h4, h5, h6, h7, h8⟩ := hargs c
    rw [h0, h1, h2, h3, h4, h5, h6, h7, h8] at r1
    rw [h0, h7] at r2 r3
    rw [h0, h8] at r4 r5
    exact ⟨r1, r2, r3, r4, r5, h.2 c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel.Frame
public import proofs.«01_k».proof.Proof.Gen.KernelIdeal.Frame
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel as written, of the kernel as idealized and of the reference, the named constant's
    statement, and the equality of all five results. -/
theorem claim : Cert.Claim :=
  ⟨Cert.Kernel.Gen.facts, Cert.KernelIdeal.Gen.facts, Cert.ReferenceIdeal.Gen.facts, Bound.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "log2e_scale" .f32 0x3E38AA3B#32 (((8 * (Real.log 2))⁻¹ : ℝ) : EReal) rfl,
    algebraic⟩

end Cert.Proof

end
